-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S12x256x2048 : Shape := ⟨3, ![12, 256, 2048]⟩
abbrev S12 : Shape := ⟨1, ![12]⟩
abbrev S_ : Shape := ⟨0, ![]⟩
abbrev S256x256 : Shape := ⟨2, ![256, 256]⟩
abbrev S256x4096 : Shape := ⟨2, ![256, 4096]⟩
abbrev S256x2048 : Shape := ⟨2, ![256, 2048]⟩
abbrev S1x256x2048 : Shape := ⟨3, ![1, 256, 2048]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S256x8192, .f32⟩
  | .local _ .vmem, ⟨0, _⟩ => ⟨S4096x256, .bf16⟩
  | .local _ .vmem, ⟨1, _⟩ => ⟨S256x8192, .bf16⟩
  | .local _ .vmem, ⟨2, _⟩ => ⟨S256x8192, .f32⟩
  | .local _ .vmem, ⟨3, _⟩ => ⟨S12x256x2048, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 5 27 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c31_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v13 : BitVec 32 := Scalar.addi v2 c31_i32
  let c16_i32_10 : BitVec 32 := 16#32
  let v14 : BitVec 32 := Scalar.remsi v13 c16_i32_10
  let c256_i32 : BitVec 32 := 256#32
  let v18 : BitVec 32 := Scalar.muli v14 c256_i32
  let v19 : Index := Scalar.indexCast v18
  let c0 : Index := 0#32
  ![v19.toNat, 0]
def k0_off2 (d0 : Dev nD) (c0_i32_12 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_11 : BitVec 32 := 1#32
  let v15 : BitVec 32 := Scalar.addi v2 c1_i32_11
  let v16 : BitVec 32 := Scalar.addi v15 c0_i32_12
  let c16_i32_13 : BitVec 32 := 16#32
  let v17 : BitVec 32 := Scalar.remsi v16 c16_i32_13
  let c256_i32_16 : BitVec 32 := 256#32
  let v25 : BitVec 32 := Scalar.muli v17 c256_i32_16
  let v26 : Index := Scalar.indexCast v25
  let c0_17 : Index := 0#32
  ![v26.toNat, 0]
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_27 : BitVec 32 := 1#32
  let v37 : BitVec 32 := Scalar.muli v7 c1_i32_27
  let v38 : BitVec 32 := Scalar.addi c0_i32_28 v37
  v38.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_37 : BitVec 32 := 1#32
  let v52 : BitVec 32 := Scalar.muli v5 c1_i32_37
  let v53 : BitVec 32 := Scalar.addi c0_i32_38 v52
  v53.toNat
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_47 : BitVec 32 := 1#32
  let v67 : BitVec 32 := Scalar.muli v7 c1_i32_47
  let v68 : BitVec 32 := Scalar.addi c0_i32_48 v67
  v68.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_57 : BitVec 32 := 1#32
  let v82 : BitVec 32 := Scalar.muli v5 c1_i32_57
  let v83 : BitVec 32 := Scalar.addi c0_i32_58 v82
  v83.toNat
def k0_dev7 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_87 : BitVec 32 := 1#32
  let v117 : BitVec 32 := Scalar.muli v5 c1_i32_87
  let v118 : BitVec 32 := Scalar.addi c0_i32_88 v117
  v118.toNat
def k0_dev8 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_108 : BitVec 32 := 1#32
  let v136 : BitVec 32 := Scalar.muli v7 c1_i32_108
  let v137 : BitVec 32 := Scalar.addi c0_i32_109 v136
  v137.toNat
def k0_dev9 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_124 : BitVec 32 := 1#32
  let v152 : BitVec 32 := Scalar.muli v7 c1_i32_124
  let v153 : BitVec 32 := Scalar.addi c0_i32_125 v152
  v153.toNat
def k0_dev10 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_144 : BitVec 32 := 1#32
  let v171 : BitVec 32 := Scalar.muli v5 c1_i32_144
  let v172 : BitVec 32 := Scalar.addi c0_i32_145 v171
  v172.toNat
def k0_dev11 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_160 : BitVec 32 := 1#32
  let v187 : BitVec 32 := Scalar.muli v5 c1_i32_160
  let v188 : BitVec 32 := Scalar.addi c0_i32_161 v187
  v188.toNat
def k0_dev12 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_180 : BitVec 32 := 1#32
  let v206 : BitVec 32 := Scalar.muli v7 c1_i32_180
  let v207 : BitVec 32 := Scalar.addi c0_i32_181 v206
  v207.toNat
def k0_dev13 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_196 : BitVec 32 := 1#32
  let v222 : BitVec 32 := Scalar.muli v7 c1_i32_196
  let v223 : BitVec 32 := Scalar.addi c0_i32_197 v222
  v223.toNat
def k0_dev14 (d0 : Dev nD) : Nat :=
  let c0_i32_217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_216 : BitVec 32 := 1#32
  let v241 : BitVec 32 := Scalar.muli v5 c1_i32_216
  let v242 : BitVec 32 := Scalar.addi c0_i32_217 v241
  v242.toNat
def k0_dev15 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_246 : BitVec 32 := 1#32
  let v276 : BitVec 32 := Scalar.muli v5 c1_i32_246
  let v277 : BitVec 32 := Scalar.addi c0_i32_247 v276
  v277.toNat
def k0_dev16 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_269 : BitVec 32 := 1#32
  let v295 : BitVec 32 := Scalar.muli v7 c1_i32_269
  let v296 : BitVec 32 := Scalar.addi c0_i32_270 v295
  v296.toNat
def k0_dev17 (d0 : Dev nD) : Nat :=
  let c0_i32_286 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_285 : BitVec 32 := 1#32
  let v311 : BitVec 32 := Scalar.muli v7 c1_i32_285
  let v312 : BitVec 32 := Scalar.addi c0_i32_286 v311
  v312.toNat
def k0_dev18 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_308 : BitVec 32 := 1#32
  let v330 : BitVec 32 := Scalar.muli v5 c1_i32_308
  let v331 : BitVec 32 := Scalar.addi c0_i32_309 v330
  v331.toNat
def k0_dev19 (d0 : Dev nD) : Nat :=
  let c0_i32_325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_324 : BitVec 32 := 1#32
  let v346 : BitVec 32 := Scalar.muli v5 c1_i32_324
  let v347 : BitVec 32 := Scalar.addi c0_i32_325 v346
  v347.toNat
def k0_dev20 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_347 : BitVec 32 := 1#32
  let v365 : BitVec 32 := Scalar.muli v7 c1_i32_347
  let v366 : BitVec 32 := Scalar.addi c0_i32_348 v365
  v366.toNat
def k0_dev21 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_363 : BitVec 32 := 1#32
  let v381 : BitVec 32 := Scalar.muli v7 c1_i32_363
  let v382 : BitVec 32 := Scalar.addi c0_i32_364 v381
  v382.toNat
def k0_dev22 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_386 : BitVec 32 := 1#32
  let v400 : BitVec 32 := Scalar.muli v5 c1_i32_386
  let v401 : BitVec 32 := Scalar.addi c0_i32_387 v400
  v401.toNat
def k0_dev23 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_416 : BitVec 32 := 1#32
  let v435 : BitVec 32 := Scalar.muli v5 c1_i32_416
  let v436 : BitVec 32 := Scalar.addi c0_i32_417 v435
  v436.toNat
def k0_dev24 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_440 : BitVec 32 := 1#32
  let v454 : BitVec 32 := Scalar.muli v7 c1_i32_440
  let v455 : BitVec 32 := Scalar.addi c0_i32_441 v454
  v455.toNat
def k0_dev25 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_456 : BitVec 32 := 1#32
  let v470 : BitVec 32 := Scalar.muli v7 c1_i32_456
  let v471 : BitVec 32 := Scalar.addi c0_i32_457 v470
  v471.toNat
def k0_dev26 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_480 : BitVec 32 := 1#32
  let v489 : BitVec 32 := Scalar.muli v5 c1_i32_480
  let v490 : BitVec 32 := Scalar.addi c0_i32_481 v489
  v490.toNat
def k0_dev27 (d0 : Dev nD) : Nat :=
  let c0_i32_497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_496 : BitVec 32 := 1#32
  let v505 : BitVec 32 := Scalar.muli v5 c1_i32_496
  let v506 : BitVec 32 := Scalar.addi c0_i32_497 v505
  v506.toNat
def k0_dev28 (d0 : Dev nD) : Nat :=
  let c0_i32_521 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_520 : BitVec 32 := 1#32
  let v524 : BitVec 32 := Scalar.muli v7 c1_i32_520
  let v525 : BitVec 32 := Scalar.addi c0_i32_521 v524
  v525.toNat
def k0_dev29 (d0 : Dev nD) : Nat :=
  let c0_i32_537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_536 : BitVec 32 := 1#32
  let v540 : BitVec 32 := Scalar.muli v7 c1_i32_536
  let v541 : BitVec 32 := Scalar.addi c0_i32_537 v540
  v541.toNat
def k0_dev30 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_560 : BitVec 32 := 1#32
  let v559 : BitVec 32 := Scalar.muli v5 c1_i32_560
  let v560 : BitVec 32 := Scalar.addi c0_i32_561 v559
  v560.toNat
def k0_dev31 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_590 : BitVec 32 := 1#32
  let v594 : BitVec 32 := Scalar.muli v5 c1_i32_590
  let v595 : BitVec 32 := Scalar.addi c0_i32_591 v594
  v595.toNat
def k0_dev32 (d0 : Dev nD) : Nat :=
  let c0_i32_615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_614 : BitVec 32 := 1#32
  let v613 : BitVec 32 := Scalar.muli v7 c1_i32_614
  let v614 : BitVec 32 := Scalar.addi c0_i32_615 v613
  v614.toNat
def k0_dev33 (d0 : Dev nD) : Nat :=
  let c0_i32_631 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_630 : BitVec 32 := 1#32
  let v629 : BitVec 32 := Scalar.muli v7 c1_i32_630
  let v630 : BitVec 32 := Scalar.addi c0_i32_631 v629
  v630.toNat
def k0_dev34 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_654 : BitVec 32 := 1#32
  let v648 : BitVec 32 := Scalar.muli v5 c1_i32_654
  let v649 : BitVec 32 := Scalar.addi c0_i32_655 v648
  v649.toNat
def k0_dev35 (d0 : Dev nD) : Nat :=
  let c0_i32_671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_670 : BitVec 32 := 1#32
  let v664 : BitVec 32 := Scalar.muli v5 c1_i32_670
  let v665 : BitVec 32 := Scalar.addi c0_i32_671 v664
  v665.toNat
def k0_dev36 (d0 : Dev nD) : Nat :=
  let c0_i32_695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_694 : BitVec 32 := 1#32
  let v683 : BitVec 32 := Scalar.muli v7 c1_i32_694
  let v684 : BitVec 32 := Scalar.addi c0_i32_695 v683
  v684.toNat
def k0_dev37 (d0 : Dev nD) : Nat :=
  let c0_i32_711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_710 : BitVec 32 := 1#32
  let v699 : BitVec 32 := Scalar.muli v7 c1_i32_710
  let v700 : BitVec 32 := Scalar.addi c0_i32_711 v699
  v700.toNat
def k0_dev38 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_734 : BitVec 32 := 1#32
  let v718 : BitVec 32 := Scalar.muli v5 c1_i32_734
  let v719 : BitVec 32 := Scalar.addi c0_i32_735 v718
  v719.toNat
def k0_dev39 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_764 : BitVec 32 := 1#32
  let v753 : BitVec 32 := Scalar.muli v5 c1_i32_764
  let v754 : BitVec 32 := Scalar.addi c0_i32_765 v753
  v754.toNat
def k0_dev40 (d0 : Dev nD) : Nat :=
  let c0_i32_789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_788 : BitVec 32 := 1#32
  let v772 : BitVec 32 := Scalar.muli v7 c1_i32_788
  let v773 : BitVec 32 := Scalar.addi c0_i32_789 v772
  v773.toNat
def k0_dev41 (d0 : Dev nD) : Nat :=
  let c0_i32_805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_804 : BitVec 32 := 1#32
  let v788 : BitVec 32 := Scalar.muli v7 c1_i32_804
  let v789 : BitVec 32 := Scalar.addi c0_i32_805 v788
  v789.toNat
def k0_dev42 (d0 : Dev nD) : Nat :=
  let c0_i32_829 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_828 : BitVec 32 := 1#32
  let v807 : BitVec 32 := Scalar.muli v5 c1_i32_828
  let v808 : BitVec 32 := Scalar.addi c0_i32_829 v807
  v808.toNat
def k0_dev43 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_844 : BitVec 32 := 1#32
  let v823 : BitVec 32 := Scalar.muli v5 c1_i32_844
  let v824 : BitVec 32 := Scalar.addi c0_i32_845 v823
  v824.toNat
def k0_dev44 (d0 : Dev nD) : Nat :=
  let c0_i32_869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_868 : BitVec 32 := 1#32
  let v842 : BitVec 32 := Scalar.muli v7 c1_i32_868
  let v843 : BitVec 32 := Scalar.addi c0_i32_869 v842
  v843.toNat
def k0_dev45 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_884 : BitVec 32 := 1#32
  let v858 : BitVec 32 := Scalar.muli v7 c1_i32_884
  let v859 : BitVec 32 := Scalar.addi c0_i32_885 v858
  v859.toNat
def k0_dev46 (d0 : Dev nD) : Nat :=
  let c0_i32_909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_908 : BitVec 32 := 1#32
  let v877 : BitVec 32 := Scalar.muli v5 c1_i32_908
  let v878 : BitVec 32 := Scalar.addi c0_i32_909 v877
  v878.toNat
def k0_dev47 (d0 : Dev nD) : Nat :=
  let c0_i32_939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_938 : BitVec 32 := 1#32
  let v912 : BitVec 32 := Scalar.muli v5 c1_i32_938
  let v913 : BitVec 32 := Scalar.addi c0_i32_939 v912
  v913.toNat
def k0_dev48 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_962 : BitVec 32 := 1#32
  let v931 : BitVec 32 := Scalar.muli v7 c1_i32_962
  let v932 : BitVec 32 := Scalar.addi c0_i32_963 v931
  v932.toNat
def k0_dev49 (d0 : Dev nD) : Nat :=
  let c0_i32_979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_978 : BitVec 32 := 1#32
  let v947 : BitVec 32 := Scalar.muli v7 c1_i32_978
  let v948 : BitVec 32 := Scalar.addi c0_i32_979 v947
  v948.toNat
def k0_dev50 (d0 : Dev nD) : Nat :=
  let c0_i32_1003 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1002 : BitVec 32 := 1#32
  let v966 : BitVec 32 := Scalar.muli v5 c1_i32_1002
  let v967 : BitVec 32 := Scalar.addi c0_i32_1003 v966
  v967.toNat
def k0_dev51 (d0 : Dev nD) : Nat :=
  let c0_i32_1019 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1018 : BitVec 32 := 1#32
  let v982 : BitVec 32 := Scalar.muli v5 c1_i32_1018
  let v983 : BitVec 32 := Scalar.addi c0_i32_1019 v982
  v983.toNat
def k0_dev52 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1042 : BitVec 32 := 1#32
  let v1001 : BitVec 32 := Scalar.muli v7 c1_i32_1042
  let v1002 : BitVec 32 := Scalar.addi c0_i32_1043 v1001
  v1002.toNat
def k0_dev53 (d0 : Dev nD) : Nat :=
  let c0_i32_1059 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1058 : BitVec 32 := 1#32
  let v1017 : BitVec 32 := Scalar.muli v7 c1_i32_1058
  let v1018 : BitVec 32 := Scalar.addi c0_i32_1059 v1017
  v1018.toNat
def k0_dev54 (d0 : Dev nD) : Nat :=
  let c0_i32_1083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1082 : BitVec 32 := 1#32
  let v1036 : BitVec 32 := Scalar.muli v5 c1_i32_1082
  let v1037 : BitVec 32 := Scalar.addi c0_i32_1083 v1036
  v1037.toNat
def k0_dev55 (d0 : Dev nD) : Nat :=
  let c0_i32_1113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1112 : BitVec 32 := 1#32
  let v1071 : BitVec 32 := Scalar.muli v5 c1_i32_1112
  let v1072 : BitVec 32 := Scalar.addi c0_i32_1113 v1071
  v1072.toNat
def k0_dev56 (d0 : Dev nD) : Nat :=
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1136 : BitVec 32 := 1#32
  let v1090 : BitVec 32 := Scalar.muli v7 c1_i32_1136
  let v1091 : BitVec 32 := Scalar.addi c0_i32_1137 v1090
  v1091.toNat
def k0_dev57 (d0 : Dev nD) : Nat :=
  let c0_i32_1153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1152 : BitVec 32 := 1#32
  let v1106 : BitVec 32 := Scalar.muli v7 c1_i32_1152
  let v1107 : BitVec 32 := Scalar.addi c0_i32_1153 v1106
  v1107.toNat
def k0_dev58 (d0 : Dev nD) : Nat :=
  let c0_i32_1177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1176 : BitVec 32 := 1#32
  let v1125 : BitVec 32 := Scalar.muli v5 c1_i32_1176
  let v1126 : BitVec 32 := Scalar.addi c0_i32_1177 v1125
  v1126.toNat
def k0_dev59 (d0 : Dev nD) : Nat :=
  let c0_i32_1193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1192 : BitVec 32 := 1#32
  let v1141 : BitVec 32 := Scalar.muli v5 c1_i32_1192
  let v1142 : BitVec 32 := Scalar.addi c0_i32_1193 v1141
  v1142.toNat
def k0_dev60 (d0 : Dev nD) : Nat :=
  let c0_i32_1217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1216 : BitVec 32 := 1#32
  let v1160 : BitVec 32 := Scalar.muli v7 c1_i32_1216
  let v1161 : BitVec 32 := Scalar.addi c0_i32_1217 v1160
  v1161.toNat
def k0_dev61 (d0 : Dev nD) : Nat :=
  let c0_i32_1233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1232 : BitVec 32 := 1#32
  let v1176 : BitVec 32 := Scalar.muli v7 c1_i32_1232
  let v1177 : BitVec 32 := Scalar.addi c0_i32_1233 v1176
  v1177.toNat
def k0_dev62 (d0 : Dev nD) : Nat :=
  let c0_i32_1257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1256 : BitVec 32 := 1#32
  let v1195 : BitVec 32 := Scalar.muli v5 c1_i32_1256
  let v1196 : BitVec 32 := Scalar.addi c0_i32_1257 v1195
  v1196.toNat
def k0_dev63 (d0 : Dev nD) : Nat :=
  let c0_i32_1287 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1286 : BitVec 32 := 1#32
  let v1230 : BitVec 32 := Scalar.muli v5 c1_i32_1286
  let v1231 : BitVec 32 := Scalar.addi c0_i32_1287 v1230
  v1231.toNat
def k0_dev64 (d0 : Dev nD) : Nat :=
  let c0_i32_1311 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1310 : BitVec 32 := 1#32
  let v1249 : BitVec 32 := Scalar.muli v7 c1_i32_1310
  let v1250 : BitVec 32 := Scalar.addi c0_i32_1311 v1249
  v1250.toNat
def k0_dev65 (d0 : Dev nD) : Nat :=
  let c0_i32_1327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1326 : BitVec 32 := 1#32
  let v1265 : BitVec 32 := Scalar.muli v7 c1_i32_1326
  let v1266 : BitVec 32 := Scalar.addi c0_i32_1327 v1265
  v1266.toNat
def k0_dev66 (d0 : Dev nD) : Nat :=
  let c0_i32_1351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1350 : BitVec 32 := 1#32
  let v1284 : BitVec 32 := Scalar.muli v5 c1_i32_1350
  let v1285 : BitVec 32 := Scalar.addi c0_i32_1351 v1284
  v1285.toNat
def k0_dev67 (d0 : Dev nD) : Nat :=
  let c0_i32_1367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1366 : BitVec 32 := 1#32
  let v1300 : BitVec 32 := Scalar.muli v5 c1_i32_1366
  let v1301 : BitVec 32 := Scalar.addi c0_i32_1367 v1300
  v1301.toNat
def k0_dev68 (d0 : Dev nD) : Nat :=
  let c0_i32_1391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1390 : BitVec 32 := 1#32
  let v1319 : BitVec 32 := Scalar.muli v7 c1_i32_1390
  let v1320 : BitVec 32 := Scalar.addi c0_i32_1391 v1319
  v1320.toNat
def k0_dev69 (d0 : Dev nD) : Nat :=
  let c0_i32_1407 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1406 : BitVec 32 := 1#32
  let v1335 : BitVec 32 := Scalar.muli v7 c1_i32_1406
  let v1336 : BitVec 32 := Scalar.addi c0_i32_1407 v1335
  v1336.toNat
def k0_dev70 (d0 : Dev nD) : Nat :=
  let c0_i32_1431 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1430 : BitVec 32 := 1#32
  let v1354 : BitVec 32 := Scalar.muli v5 c1_i32_1430
  let v1355 : BitVec 32 := Scalar.addi c0_i32_1431 v1354
  v1355.toNat
def k0_dev71 (d0 : Dev nD) : Nat :=
  let c0_i32_1461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1460 : BitVec 32 := 1#32
  let v1389 : BitVec 32 := Scalar.muli v5 c1_i32_1460
  let v1390 : BitVec 32 := Scalar.addi c0_i32_1461 v1389
  v1390.toNat
def k0_dev72 (d0 : Dev nD) : Nat :=
  let c0_i32_1485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1484 : BitVec 32 := 1#32
  let v1408 : BitVec 32 := Scalar.muli v7 c1_i32_1484
  let v1409 : BitVec 32 := Scalar.addi c0_i32_1485 v1408
  v1409.toNat
def k0_dev73 (d0 : Dev nD) : Nat :=
  let c0_i32_1501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1500 : BitVec 32 := 1#32
  let v1424 : BitVec 32 := Scalar.muli v7 c1_i32_1500
  let v1425 : BitVec 32 := Scalar.addi c0_i32_1501 v1424
  v1425.toNat
def k0_dev74 (d0 : Dev nD) : Nat :=
  let c0_i32_1525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1524 : BitVec 32 := 1#32
  let v1443 : BitVec 32 := Scalar.muli v5 c1_i32_1524
  let v1444 : BitVec 32 := Scalar.addi c0_i32_1525 v1443
  v1444.toNat
def k0_dev75 (d0 : Dev nD) : Nat :=
  let c0_i32_1541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1540 : BitVec 32 := 1#32
  let v1459 : BitVec 32 := Scalar.muli v5 c1_i32_1540
  let v1460 : BitVec 32 := Scalar.addi c0_i32_1541 v1459
  v1460.toNat
def k0_dev76 (d0 : Dev nD) : Nat :=
  let c0_i32_1565 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1564 : BitVec 32 := 1#32
  let v1478 : BitVec 32 := Scalar.muli v7 c1_i32_1564
  let v1479 : BitVec 32 := Scalar.addi c0_i32_1565 v1478
  v1479.toNat
def k0_dev77 (d0 : Dev nD) : Nat :=
  let c0_i32_1581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1580 : BitVec 32 := 1#32
  let v1494 : BitVec 32 := Scalar.muli v7 c1_i32_1580
  let v1495 : BitVec 32 := Scalar.addi c0_i32_1581 v1494
  v1495.toNat
def k0_dev78 (d0 : Dev nD) : Nat :=
  let c0_i32_1605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1604 : BitVec 32 := 1#32
  let v1513 : BitVec 32 := Scalar.muli v5 c1_i32_1604
  let v1514 : BitVec 32 := Scalar.addi c0_i32_1605 v1513
  v1514.toNat
def k0_dev79 (d0 : Dev nD) : Nat :=
  let c0_i32_1635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1634 : BitVec 32 := 1#32
  let v1548 : BitVec 32 := Scalar.muli v5 c1_i32_1634
  let v1549 : BitVec 32 := Scalar.addi c0_i32_1635 v1548
  v1549.toNat
def k0_dev80 (d0 : Dev nD) : Nat :=
  let c0_i32_1659 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1658 : BitVec 32 := 1#32
  let v1567 : BitVec 32 := Scalar.muli v7 c1_i32_1658
  let v1568 : BitVec 32 := Scalar.addi c0_i32_1659 v1567
  v1568.toNat
def k0_dev81 (d0 : Dev nD) : Nat :=
  let c0_i32_1675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1674 : BitVec 32 := 1#32
  let v1583 : BitVec 32 := Scalar.muli v7 c1_i32_1674
  let v1584 : BitVec 32 := Scalar.addi c0_i32_1675 v1583
  v1584.toNat
def k0_dev82 (d0 : Dev nD) : Nat :=
  let c0_i32_1699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1698 : BitVec 32 := 1#32
  let v1602 : BitVec 32 := Scalar.muli v5 c1_i32_1698
  let v1603 : BitVec 32 := Scalar.addi c0_i32_1699 v1602
  v1603.toNat
def k0_dev83 (d0 : Dev nD) : Nat :=
  let c0_i32_1715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1714 : BitVec 32 := 1#32
  let v1618 : BitVec 32 := Scalar.muli v5 c1_i32_1714
  let v1619 : BitVec 32 := Scalar.addi c0_i32_1715 v1618
  v1619.toNat
def k0_dev84 (d0 : Dev nD) : Nat :=
  let c0_i32_1739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1738 : BitVec 32 := 1#32
  let v1637 : BitVec 32 := Scalar.muli v7 c1_i32_1738
  let v1638 : BitVec 32 := Scalar.addi c0_i32_1739 v1637
  v1638.toNat
def k0_dev85 (d0 : Dev nD) : Nat :=
  let c0_i32_1755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1754 : BitVec 32 := 1#32
  let v1653 : BitVec 32 := Scalar.muli v7 c1_i32_1754
  let v1654 : BitVec 32 := Scalar.addi c0_i32_1755 v1653
  v1654.toNat
def k0_dev86 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1778 : BitVec 32 := 1#32
  let v1672 : BitVec 32 := Scalar.muli v5 c1_i32_1778
  let v1673 : BitVec 32 := Scalar.addi c0_i32_1779 v1672
  v1673.toNat
def k0_dev87 (d0 : Dev nD) : Nat :=
  let c0_i32_1809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1808 : BitVec 32 := 1#32
  let v1707 : BitVec 32 := Scalar.muli v5 c1_i32_1808
  let v1708 : BitVec 32 := Scalar.addi c0_i32_1809 v1707
  v1708.toNat
def k0_dev88 (d0 : Dev nD) : Nat :=
  let c0_i32_1833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1832 : BitVec 32 := 1#32
  let v1726 : BitVec 32 := Scalar.muli v7 c1_i32_1832
  let v1727 : BitVec 32 := Scalar.addi c0_i32_1833 v1726
  v1727.toNat
def k0_dev89 (d0 : Dev nD) : Nat :=
  let c0_i32_1849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1848 : BitVec 32 := 1#32
  let v1742 : BitVec 32 := Scalar.muli v7 c1_i32_1848
  let v1743 : BitVec 32 := Scalar.addi c0_i32_1849 v1742
  v1743.toNat
def k0_dev90 (d0 : Dev nD) : Nat :=
  let c0_i32_1873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1872 : BitVec 32 := 1#32
  let v1761 : BitVec 32 := Scalar.muli v5 c1_i32_1872
  let v1762 : BitVec 32 := Scalar.addi c0_i32_1873 v1761
  v1762.toNat
def k0_dev91 (d0 : Dev nD) : Nat :=
  let c0_i32_1889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1888 : BitVec 32 := 1#32
  let v1777 : BitVec 32 := Scalar.muli v5 c1_i32_1888
  let v1778 : BitVec 32 := Scalar.addi c0_i32_1889 v1777
  v1778.toNat
def k0_dev92 (d0 : Dev nD) : Nat :=
  let c0_i32_1913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1912 : BitVec 32 := 1#32
  let v1796 : BitVec 32 := Scalar.muli v7 c1_i32_1912
  let v1797 : BitVec 32 := Scalar.addi c0_i32_1913 v1796
  v1797.toNat
def k0_dev93 (d0 : Dev nD) : Nat :=
  let c0_i32_1929 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1928 : BitVec 32 := 1#32
  let v1812 : BitVec 32 := Scalar.muli v7 c1_i32_1928
  let v1813 : BitVec 32 := Scalar.addi c0_i32_1929 v1812
  v1813.toNat
def k0_dev94 (d0 : Dev nD) : Nat :=
  let c0_i32_1953 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1952 : BitVec 32 := 1#32
  let v1831 : BitVec 32 := Scalar.muli v5 c1_i32_1952
  let v1832 : BitVec 32 := Scalar.addi c0_i32_1953 v1831
  v1832.toNat
def k0_dev95 (d0 : Dev nD) : Nat :=
  let c0_i32_1982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1981 : BitVec 32 := 1#32
  let v1866 : BitVec 32 := Scalar.muli v5 c1_i32_1981
  let v1867 : BitVec 32 := Scalar.addi c0_i32_1982 v1866
  v1867.toNat
def k0_dev96 (d0 : Dev nD) : Nat :=
  let c0_i32_2006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2005 : BitVec 32 := 1#32
  let v1885 : BitVec 32 := Scalar.muli v7 c1_i32_2005
  let v1886 : BitVec 32 := Scalar.addi c0_i32_2006 v1885
  v1886.toNat
def k0_dev97 (d0 : Dev nD) : Nat :=
  let c0_i32_2022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2021 : BitVec 32 := 1#32
  let v1901 : BitVec 32 := Scalar.muli v7 c1_i32_2021
  let v1902 : BitVec 32 := Scalar.addi c0_i32_2022 v1901
  v1902.toNat
def k0_dev98 (d0 : Dev nD) : Nat :=
  let c0_i32_2046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2045 : BitVec 32 := 1#32
  let v1920 : BitVec 32 := Scalar.muli v5 c1_i32_2045
  let v1921 : BitVec 32 := Scalar.addi c0_i32_2046 v1920
  v1921.toNat
def k0_dev99 (d0 : Dev nD) : Nat :=
  let c0_i32_2062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2061 : BitVec 32 := 1#32
  let v1936 : BitVec 32 := Scalar.muli v5 c1_i32_2061
  let v1937 : BitVec 32 := Scalar.addi c0_i32_2062 v1936
  v1937.toNat
def k0_dev100 (d0 : Dev nD) : Nat :=
  let c0_i32_2086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2085 : BitVec 32 := 1#32
  let v1955 : BitVec 32 := Scalar.muli v7 c1_i32_2085
  let v1956 : BitVec 32 := Scalar.addi c0_i32_2086 v1955
  v1956.toNat
def k0_dev101 (d0 : Dev nD) : Nat :=
  let c0_i32_2102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2101 : BitVec 32 := 1#32
  let v1971 : BitVec 32 := Scalar.muli v7 c1_i32_2101
  let v1972 : BitVec 32 := Scalar.addi c0_i32_2102 v1971
  v1972.toNat
def k0_dev102 (d0 : Dev nD) : Nat :=
  let c0_i32_2126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2125 : BitVec 32 := 1#32
  let v1990 : BitVec 32 := Scalar.muli v5 c1_i32_2125
  let v1991 : BitVec 32 := Scalar.addi c0_i32_2126 v1990
  v1991.toNat
def k0_dev103 (d0 : Dev nD) : Nat :=
  let c0_i32_2155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2154 : BitVec 32 := 1#32
  let v2025 : BitVec 32 := Scalar.muli v5 c1_i32_2154
  let v2026 : BitVec 32 := Scalar.addi c0_i32_2155 v2025
  v2026.toNat
def k0_dev104 (d0 : Dev nD) : Nat :=
  let c0_i32_2179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2178 : BitVec 32 := 1#32
  let v2044 : BitVec 32 := Scalar.muli v7 c1_i32_2178
  let v2045 : BitVec 32 := Scalar.addi c0_i32_2179 v2044
  v2045.toNat
def k0_dev105 (d0 : Dev nD) : Nat :=
  let c0_i32_2195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2194 : BitVec 32 := 1#32
  let v2060 : BitVec 32 := Scalar.muli v7 c1_i32_2194
  let v2061 : BitVec 32 := Scalar.addi c0_i32_2195 v2060
  v2061.toNat
def k0_dev106 (d0 : Dev nD) : Nat :=
  let c0_i32_2219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2218 : BitVec 32 := 1#32
  let v2079 : BitVec 32 := Scalar.muli v5 c1_i32_2218
  let v2080 : BitVec 32 := Scalar.addi c0_i32_2219 v2079
  v2080.toNat
def k0_dev107 (d0 : Dev nD) : Nat :=
  let c0_i32_2235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2234 : BitVec 32 := 1#32
  let v2095 : BitVec 32 := Scalar.muli v5 c1_i32_2234
  let v2096 : BitVec 32 := Scalar.addi c0_i32_2235 v2095
  v2096.toNat
def k0_dev108 (d0 : Dev nD) : Nat :=
  let c0_i32_2259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2258 : BitVec 32 := 1#32
  let v2114 : BitVec 32 := Scalar.muli v7 c1_i32_2258
  let v2115 : BitVec 32 := Scalar.addi c0_i32_2259 v2114
  v2115.toNat
def k0_dev109 (d0 : Dev nD) : Nat :=
  let c0_i32_2275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2274 : BitVec 32 := 1#32
  let v2130 : BitVec 32 := Scalar.muli v7 c1_i32_2274
  let v2131 : BitVec 32 := Scalar.addi c0_i32_2275 v2130
  v2131.toNat
def k0_dev110 (d0 : Dev nD) : Nat :=
  let c0_i32_2299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2298 : BitVec 32 := 1#32
  let v2149 : BitVec 32 := Scalar.muli v5 c1_i32_2298
  let v2150 : BitVec 32 := Scalar.addi c0_i32_2299 v2149
  v2150.toNat
def k0_dev111 (d0 : Dev nD) : Nat :=
  let c0_i32_2349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2348 : BitVec 32 := 1#32
  let v2201 : BitVec 32 := Scalar.muli v7 c1_i32_2348
  let v2202 : BitVec 32 := Scalar.addi c0_i32_2349 v2201
  v2202.toNat
def k0_dev112 (d0 : Dev nD) : Nat :=
  let c0_i32_2386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2385 : BitVec 32 := 1#32
  let v2234 : BitVec 32 := Scalar.muli v5 c1_i32_2385
  let v2235 : BitVec 32 := Scalar.addi c0_i32_2386 v2234
  v2235.toNat
def k0_dev113 (d0 : Dev nD) : Nat :=
  let c0_i32_2423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2422 : BitVec 32 := 1#32
  let v2267 : BitVec 32 := Scalar.muli v7 c1_i32_2422
  let v2268 : BitVec 32 := Scalar.addi c0_i32_2423 v2267
  v2268.toNat
def k0_dev114 (d0 : Dev nD) : Nat :=
  let c0_i32_2460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2459 : BitVec 32 := 1#32
  let v2300 : BitVec 32 := Scalar.muli v5 c1_i32_2459
  let v2301 : BitVec 32 := Scalar.addi c0_i32_2460 v2300
  v2301.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Loop.lean ====
/-
  The kernel's body as the loop it is written as. The printed body is straight-line code, one statement per
  operation of every ring and every step; here the same operations are given once, at a ring `r` and a step `s`,
  and put together by recursion on the step. `LoopEq.lean` shows that the printed body is this program.
-/
module

public import proofs.«01_k».proof.Proof.Gen.KernelIdeal

@[expose] public section

noncomputable section

namespace Cert.Proof

open Cert.KernelIdeal Cert.KernelIdeal.Gen

open Idealize.ShloMosaic Idealize.SL.Sem

variable {F : FTy → Type} [FloatOps F]

/-! ### Slots, rows and columns -/

theorem inb_slot (n : Fin 12) (a : Fin 3) :
    (![n.val, 0, 0] : Fin 3 → Nat) a + S1x256x2048.size a ≤ S12x256x2048.size a := by
  revert n a; decide

theorem inb_sem (n : Fin 12) (a : Fin 1) : (![n.val] : Fin 1 → Nat) a + S1.size a ≤ S12.size a := by
  revert n a; decide

/-- Slot `n` of the twelve, as a rectangle of the communication buffer. -/
abbrev slotRect (n : Fin 12) : Rect S12x256x2048 :=
  Rect.unit (s := S12x256x2048) ![n.val, 0, 0] S1x256x2048.size (inb_slot n)

theorem packed_slot (n : Fin 12) : (slotRect n).PackedRows (EltTy.packing .bf16) := by
  revert n; decide

theorem words_slot (n : Fin 12) : (slotRect n).WholeWords (EltTy.packing .bf16) := by
  revert n; decide

/-- Ring `r`'s slot (and semaphore) at step `s`: three per ring, in turn. -/
abbrev slotIx (r : Fin 4) (s : Nat) : Fin 12 := ⟨3 * r.val + s % 3, by omega⟩

/-- Slot `n` of the communication buffer, as the matrix a copy moves. -/
abbrev slotMem (b : Memref sig .tc .vmem S12x256x2048 .bf16) (n : Fin 12) : Memref sig .tc .vmem S256x2048 .bf16 :=
  (b.slice (slotRect n) (fun _ => rfl)).squeeze S256x2048 squeezes_S1x256x2048_S256x2048

/-- Semaphore `n` of twelve. -/
abbrev semAt (a : DmaSems sig S12) (n : Fin 12) : DmaSems sig S_ :=
  (a.slice (Rect.unit (s := S12) ![n.val] S1.size (inb_sem n))).squeeze S_ squeezes_S1_S_

/-- The rows of `x` whose product goes round clockwise at step `s`, -/
abbrev rowsCw (d : Dev nD) (s : Nat) : Rect S4096x256 :=
  Rect.unit (s := S4096x256) (k0_off1 d (BitVec.ofNat 32 (16 + (15 - s)))) S256x256.size
    (k0_off1_inb d ⟨15 - s, by omega⟩)

/-- and counterclockwise. -/
abbrev rowsCcw (d : Dev nD) (s : Nat) : Rect S4096x256 :=
  Rect.unit (s := S4096x256) (k0_off2 d (BitVec.ofNat 32 (s % 16))) S256x256.size
    (k0_off2_inb d ⟨s % 16, by omega⟩)

/-- The first half of `w`'s columns, -/
abbrev colsLo : Rect S256x8192 := Rect.unit (s := S256x8192) ![0, 0] S256x4096.size inb_S256x8192_S256x4096_0_0
/-- and the second. -/
abbrev colsHi : Rect S256x8192 := Rect.unit (s := S256x8192) ![0, 4096] S256x4096.size inb_S256x8192_S256x4096_0_4096

/-- The device ring `r` sends to: the right neighbour on rings 0 and 2, the left on 1 and 3; -/
def tgt (d : Dev nD) : Fin 4 → Dev nD
  | 0 => ⟨k0_dev3 d, k0_dev3_lt d⟩
  | 1 => ⟨k0_dev4 d, k0_dev4_lt d⟩
  | 2 => ⟨k0_dev3 d, k0_dev3_lt d⟩
  | 3 => ⟨k0_dev4 d, k0_dev4_lt d⟩

/-- and the one it receives from. -/
def src (d : Dev nD) : Fin 4 → Dev nD
  | 0 => ⟨k0_dev4 d, k0_dev4_lt d⟩
  | 1 => ⟨k0_dev3 d, k0_dev3_lt d⟩
  | 2 => ⟨k0_dev4 d, k0_dev4_lt d⟩
  | 3 => ⟨k0_dev3 d, k0_dev3_lt d⟩

/-- Where ring `r`'s columns of the result begin, -/
def outCol : Fin 4 → Nat
  | 0 => 0
  | 1 => 4096
  | 2 => 2048
  | 3 => 6144

theorem inb_out (r : Fin 4) (a : Fin 2) : (![0, outCol r] : Fin 2 → Nat) a + S256x2048.size a ≤ S256x8192.size a := by
  revert r a; decide

/-- and the columns. -/
abbrev outRect (r : Fin 4) : Rect S256x8192 :=
  Rect.unit (s := S256x8192) ![0, outCol r] S256x2048.size (inb_out r)

/-- The barrier's semaphore. -/
abbrev barSems : Sems sig S_ := SemArray.scalar (sig.barrier 0 rfl)

/-! ### The values -/

/-- One product: 256 rows of `x` by 4096 columns of `w`. -/
def prod (x : Vec F S256x256 .bf16) (w : Vec F S256x4096 .bf16) : FVec F S256x4096 .f32 :=
  matmul dot_S256x256_S256x4096_S256x4096_1_0_0_1_n_n none (shapeCast S256x256 x shapeCasts_S256x256_S256x256)
    (shapeCast S256x4096 w shapeCasts_S256x4096_S256x4096) (constant S256x4096 .f32 0x00000000#32)

/-- A step's two products, the clockwise one first. -/
abbrev Parts (F : FTy → Type) : Type := FVec F S256x4096 .f32 × FVec F S256x4096 .f32

/-- Ring `r`'s quarter of the columns, out of a step's two products. -/
def quarter (r : Fin 4) (p : Parts F) : FVec F S256x2048 .f32 :=
  match r with
  | 0 => extractStridedSlice S256x2048 ![0, 0] p.1 slices_S256x4096_o0_0_S256x2048
  | 1 => extractStridedSlice S256x2048 ![0, 0] p.2 slices_S256x4096_o0_0_S256x2048
  | 2 => extractStridedSlice S256x2048 ![0, 2048] p.1 slices_S256x4096_o0_2048_S256x2048
  | 3 => extractStridedSlice S256x2048 ![0, 2048] p.2 slices_S256x4096_o0_2048_S256x2048

/-- What ring `r` puts in its slot at the first step, -/
def payFirst (r : Fin 4) (p : Parts F) : FVec F S1x256x2048 .bf16 :=
  shapeCast S1x256x2048 (truncf .bf16 (quarter r p) bitsLt_bf16_f32) shapeCasts_S256x2048_S1x256x2048

/-- a step's quarter with the sum received, -/
def addIn (r : Fin 4) (p : Parts F) (v : Vec F S1x256x2048 .bf16) : FVec F S256x2048 .f32 :=
  addf (quarter r p) (extf .f32 (shapeCast S256x2048 v shapeCasts_S1x256x2048_S256x2048) bitsLt_bf16_f32)

/-- and what ring `r` puts in its slot at a later step. -/
def payNext (r : Fin 4) (p : Parts F) (v : Vec F S1x256x2048 .bf16) : FVec F S1x256x2048 .bf16 :=
  shapeCast S1x256x2048 (truncf .bf16 (addIn r p v) bitsLt_bf16_f32) shapeCasts_S256x2048_S1x256x2048

/-! ### The operations -/

section
variable (x : Memref sig .tc .vmem S4096x256 .bf16) (w : Memref sig .tc .vmem S256x8192 .bf16)
  (o : Memref sig .tc .vmem S256x8192 .f32) (b : Memref sig .tc .vmem S12x256x2048 .bf16) (hb : b.IsWhole)
  (ss rs : DmaSems sig S12) (cr : Fin 4 → Sems sig S_)

/-- The two products of step `s`. -/
def partials (d : Dev nD) (s : Nat) : Prog (TpuEff nD τ sig (Elt F) Λ₀ .tc) (Parts F) := do
  let x0 : Vec F S256x256 .bf16 ← Prog.lift (.load x (rowsCw d s).toLoadRect (View.loadsAt_vmem h_S256x256))
  let w0 : Vec F S256x4096 .bf16 ← Prog.lift (.load w colsLo.toLoadRect (View.loadsAt_vmem h_S256x4096))
  let x1 : Vec F S256x256 .bf16 ← Prog.lift (.load x (rowsCcw d s).toLoadRect (View.loadsAt_vmem h_S256x256))
  let w1 : Vec F S256x4096 .bf16 ← Prog.lift (.load w colsHi.toLoadRect (View.loadsAt_vmem h_S256x4096))
  pure (prod x0 w0, prod x1 w1)

/-- A slot's contents; -/
abbrev loadSlot (n : Fin 12) : Prog (TpuEff nD τ sig (Elt F) Λ₀ .tc) (Vec F S1x256x2048 .bf16) :=
  Prog.lift (.load b (slotRect n).toLoadRect (View.loadsAt_vmem h_S1x256x2048))

/-- writing a slot; -/
abbrev storeSlot (n : Fin 12) (v : FVec F S1x256x2048 .bf16) : Prog (TpuEff nD τ sig (Elt F) Λ₀ .tc) PUnit :=
  Prog.lift (.store b (slotRect n) v Finset.univ
    (View.stores_vmem h_S1x256x2048 (hb.storeExact_slice rfl _ (packed_slot n)) (fun _ => rfl)) (.inl rfl))

/-- the copy of ring `r`'s step `s`, to the next slot of the device the ring sends to; -/
abbrev sendSlot (d : Dev nD) (r : Fin 4) (s : Nat) : Prog (TpuEff nD τ sig (Elt F) Λ₀ .tc) PUnit :=
  Prog.lift (.enqueueDma (slotMem b (slotIx r s))
    (.remote (Dev.tc (tgt d r)) (slotMem b (slotIx r (s + 1))) (.dma (semAt ss (slotIx r s)).sem))
    (.dma (semAt rs (slotIx r (s + 1))).sem) ((hb.wordExact_slice rfl _ (words_slot _)).reshape _ _)
    ((hb.wordExact_slice rfl _ (words_slot _)).reshape _ _) ⟨⟨rfl, Or.inl rfl⟩, trivial⟩)

/-- waiting for the copy of ring `r`'s step `s` to have been sent; -/
abbrev waitSent (r : Fin 4) (s : Nat) : Prog (TpuEff nD τ sig (Elt F) Λ₀ .tc) PUnit :=
  Prog.lift (.waitDma2 (semAt ss (slotIx r s)).sem (slotMem b (slotIx r (s + 1))) (slotMem b (slotIx r s))
    ((hb.wordExact_slice rfl _ (words_slot _)).reshape _ _) ((hb.wordExact_slice rfl _ (words_slot _)).reshape _ _))

/-- waiting for the one of the device the ring receives from to have landed. -/
abbrev waitLanded (r : Fin 4) (s : Nat) : Prog (TpuEff nD τ sig (Elt F) Λ₀ .tc) PUnit :=
  Prog.lift (.waitDma2 (semAt rs (slotIx r (s + 1))).sem (slotMem b (slotIx r s)) (slotMem b (slotIx r (s + 1)))
    ((hb.wordExact_slice rfl _ (words_slot _)).reshape _ _) ((hb.wordExact_slice rfl _ (words_slot _)).reshape _ _))

/-- Ring `r` at the first step. -/
def first (d : Dev nD) (r : Fin 4) (p : Parts F) : Prog (TpuEff nD τ sig (Elt F) Λ₀ .tc) PUnit := do
  let _v : Vec F S1x256x2048 .bf16 ← loadSlot b (slotIx r 0)
  storeSlot b hb (slotIx r 0) (payFirst r p)
  sendSlot b hb ss rs d r 0

/-- The credit ring `r` gives back at step `s`, while a later copy needs it; -/
def giveCredit (d : Dev nD) (r : Fin 4) (s : Nat) : Prog (TpuEff nD τ sig (Elt F) Λ₀ .tc) PUnit :=
  if s ≤ 13 then semSignalWord (src d r) (cr r).sem 1#32 else pure ⟨⟩

/-- and the one its copy of step `s` takes, from the third on. -/
def takeCredit (r : Fin 4) (s : Nat) : Prog (TpuEff nD τ sig (Elt F) Λ₀ .tc) PUnit :=
  if 2 ≤ s then semWaitWord (cr r).sem 1#32 else pure ⟨⟩

/-- Ring `r` at step `s + 1`. -/
def next (d : Dev nD) (r : Fin 4) (s : Nat) (p : Parts F) : Prog (TpuEff nD τ sig (Elt F) Λ₀ .tc) PUnit := do
  waitSent b hb ss r s
  giveCredit cr d r (s + 1)
  waitLanded b hb rs r s
  let v : Vec F S1x256x2048 .bf16 ← loadSlot b (slotIx r (s + 1))
  let _v : Vec F S1x256x2048 .bf16 ← loadSlot b (slotIx r (s + 1))
  storeSlot b hb (slotIx r (s + 1)) (payNext r p v)
  takeCredit cr r (s + 1)
  sendSlot b hb ss rs d r (s + 1)

/-- Ring `r`'s end: its columns of the result. -/
def last (r : Fin 4) (p : Parts F) : Prog (TpuEff nD τ sig (Elt F) Λ₀ .tc) PUnit := do
  waitSent b hb ss r 14
  waitLanded b hb rs r 14
  let v : Vec F S1x256x2048 .bf16 ← loadSlot b (slotIx r 15)
  let _v : Vec F S256x2048 .f32 ← Prog.lift (.load o (outRect r).toLoadRect (View.loadsAt_vmem h_S256x2048))
  Prog.lift (.store o (outRect r) (addIn r p v) Finset.univ (View.stores_vmem_bits_univ h_S256x2048 rfl) (.inl rfl))

/-- Step `s + 1` of the four rings, and the products of the step after. -/
def stepNext (d : Dev nD) (s : Nat) (p : Parts F) : Prog (TpuEff nD τ sig (Elt F) Λ₀ .tc) (Parts F) := do
  next b hb ss rs cr d 0 s p
  next b hb ss rs cr d 1 s p
  next b hb ss rs cr d 2 s p
  next b hb ss rs cr d 3 s p
  partials x w d (s + 2)

/-- `n` steps from step `s + 1` on. -/
def steps (d : Dev nD) : Nat → Nat → Parts F → Prog (TpuEff nD τ sig (Elt F) Λ₀ .tc) (Parts F)
  | 0, _, p => pure p
  | n + 1, s, p => stepNext x w b hb ss rs cr d s p >>= steps d n (s + 1)

/-- The start: both neighbours told, both heard from, the first products, the first step. -/
def start (d : Dev nD) : Prog (TpuEff nD τ sig (Elt F) Λ₀ .tc) (Parts F) := do
  semSignalWord (tgt d 1) barSems.sem 1#32
  semSignalWord (tgt d 0) barSems.sem 1#32
  semWaitWord barSems.sem 2#32
  let p : Parts F ← partials x w d 0
  first b hb ss rs d 0 p
  first b hb ss rs d 1 p
  first b hb ss rs d 2 p
  first b hb ss rs d 3 p
  partials x w d 1

/-- The end, ring by ring. -/
def finish (p : Parts F) : Prog (TpuEff nD τ sig (Elt F) Λ₀ .tc) PUnit := do
  last o b hb ss rs 0 p
  last o b hb ss rs 1 p
  last o b hb ss rs 2 p
  last o b hb ss rs 3 p

/-- The body. -/
def loopBody : Prog (TpuEff nD τ sig (Elt F) Λ₀ .tc) PUnit := do
  let d : Dev nD ← Prog.lift .deviceId
  let p : Parts F ← start x w b hb ss rs d
  let q : Parts F ← steps x w b hb ss rs cr d 14 0 p
  finish o b hb ss rs q

end

end Cert.Proof

end
-- ==== Proof.Protocol.lean ====
/-
  The protocol of the four rings, as rounds of duties.

  On every device there are, for each ring, three slots of the communication buffer with a send and a receive
  semaphore each, and one credit semaphore; and there is the barrier semaphore. Copy `u` of ring `r` leaves device
  `c`'s slot `u` (modulo three), lands in slot `u + 1` of the device the ring sends to, and is round `u / 3` of both
  its semaphores.

  * A send semaphore's round hands the slot back to the sender.
  * A receive semaphore's round hands its owner the slot written, with the sum the ring has built up so far.
  * The barrier's one round has two duties, one from each neighbour. Each hands over the slots the neighbour opens
    to the rings that send to it: those of the first two copies.
  * A credit semaphore's one round has thirteen duties, one for each credit. Credits can arrive in any order, so what
    a credit hands over is not a slot but a fact that stays true: that the slot of this copy, and those of all
    before, have been released. The slots themselves wait in invariants.
-/
module

public import proofs.«01_k».proof.Proof.Loop
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- A released slot: its device, its ring and the step of the release. -/
abbrev SlotKey : Type := Dev nD × Fin 4 × ℕ
/-- The rings' rounds, duties named by numbers. -/
abbrev UB : Type := URounds (GSem nD τ sig) ℕ
/-- The pipeline's rounds, the rings' rounds, the releases. -/
abbrev UU : Type := UR sig nD τ × (UB × Release.USlots SlotKey)

local notation "𝕄" => MT nD τ sig ℕ (Elt F) ℕ UU ℕ

/-- The three parts inside the whole. -/
def EP : Emb (UR sig nD τ) (MT nD τ sig ℕ (Elt F) ℕ UU ℕ) :=
  (Emb.inl : Emb (UR sig nD τ) UU).trans
    (uEmb (nD := nD) (sig := sig) (Ix := ℕ) (Val := Elt F) (Name := ℕ) (U := UU) (Lvl := ℕ)).toEmb
def ERS : Emb (UB × Release.USlots SlotKey) (MT nD τ sig ℕ (Elt F) ℕ UU ℕ) :=
  (Emb.inr : Emb (UB × Release.USlots SlotKey) UU).trans
    (uEmb (nD := nD) (sig := sig) (Ix := ℕ) (Val := Elt F) (Name := ℕ) (U := UU) (Lvl := ℕ)).toEmb
def ER : Emb UB (MT nD τ sig ℕ (Elt F) ℕ UU ℕ) := (Emb.inl : Emb UB (UB × Release.USlots SlotKey)).trans ERS
def ES : Emb (Release.USlots SlotKey) (MT nD τ sig ℕ (Elt F) ℕ UU ℕ) :=
  (Emb.inr : Emb (Release.USlots SlotKey) (UB × Release.USlots SlotKey)).trans ERS

instance EP_landsIn : (EP : Emb (UR sig nD τ) 𝕄).LandsIn (upEmb : UEmb _ 𝕄) := by unfold EP; infer_instance
instance ERS_landsIn : (ERS : Emb (UB × Release.USlots SlotKey) 𝕄).LandsIn (upEmb : UEmb _ 𝕄) := by
  unfold ERS; infer_instance
instance ER_landsIn : (ER : Emb UB 𝕄).LandsIn (upEmb : UEmb _ 𝕄) := by unfold ER; infer_instance
instance ES_landsIn : (ES : Emb (Release.USlots SlotKey) 𝕄).LandsIn (upEmb : UEmb _ 𝕄) := by unfold ES; infer_instance

/-! ## The rings' arithmetic -/

theorem src_tgt (c : Dev nD) (r : Fin 4) : src (tgt c r) r = c := by revert c r; decide
theorem tgt_src (c : Dev nD) (r : Fin 4) : tgt (src c r) r = c := by revert c r; decide

/-- Going round a ring, as a permutation of the devices. -/
def tgtE (r : Fin 4) : Dev nD ≃ Dev nD := ⟨fun c => tgt c r, fun c => src c r, fun c => src_tgt c r, fun c => tgt_src c r⟩

theorem slotIx_add3 (r : Fin 4) (u : ℕ) : slotIx r (u + 3) = slotIx r u := Fin.ext (by simp [slotIx])
theorem slotIx_val (r : Fin 4) (u : ℕ) : (slotIx r u).val = 3 * r.val + u % 3 := rfl

/-- The ring of slot `n`. -/
def ringOf (n : Fin 12) : Fin 4 := ⟨n.val / 3, by omega⟩
/-- The copy that lands in slot `n` as its round `R`. -/
def copyOf (n : Fin 12) (R : ℕ) : ℕ := 3 * R + (n.val % 3 + 2) % 3

theorem ringOf_slotIx (r : Fin 4) (u : ℕ) : ringOf (slotIx r u) = r := Fin.ext (by simp only [ringOf, slotIx]; omega)
theorem copyOf_slotIx (r : Fin 4) (u : ℕ) : copyOf (slotIx r (u + 1)) (u / 3) = u := by
  simp only [copyOf, slotIx]; omega

/-! ## The semaphores -/

/-- What a semaphore of the kernel is for. -/
inductive Role : Type
  | bar | send (n : Fin 12) | recv (n : Fin 12) | cred (r : Fin 4) | other
  deriving DecidableEq

def role : SemLoc sig → Role
  | .reg i => if h : i.val < 4 then .cred ⟨i.val, h⟩ else .bar
  | .dma i => if i.val < 3 then .other
      else if i.val < 15 then .send ⟨(i.val - 3) % 12, Nat.mod_lt _ (by decide)⟩
      else .recv ⟨(i.val - 15) % 12, Nat.mod_lt _ (by decide)⟩

/-- Ring `r`'s credit semaphore. -/
def credSems : Fin 4 → Sems sig S_
  | 0 => cc0_scratch3
  | 1 => cc0_scratch4
  | 2 => cc0_scratch5
  | 3 => cc0_scratch6

theorem role_bar : role (.reg barSems.sem) = .bar := by decide
theorem role_send (n : Fin 12) : role (.dma (semAt cc0_scratch1 n).sem) = .send n := by revert n; decide
theorem role_recv (n : Fin 12) : role (.dma (semAt cc0_scratch2 n).sem) = .recv n := by revert n; decide
theorem role_cred (r : Fin 4) : role (.reg (credSems r).sem) = .cred r := by revert r; decide

abbrev barCell (c : Dev nD) : GSem nD τ sig := ((c : Thread nD τ), .reg barSems.sem)
/-- The send semaphore of ring `r`'s copy `u` from `c`; -/
abbrev sendCell (c : Dev nD) (r : Fin 4) (u : ℕ) : GSem nD τ sig :=
  ((c : Thread nD τ), .dma (semAt cc0_scratch1 (slotIx r u)).sem)
/-- the receive semaphore of `c`'s slot `u` of ring `r`; -/
abbrev recvCell (c : Dev nD) (r : Fin 4) (u : ℕ) : GSem nD τ sig :=
  ((c : Thread nD τ), .dma (semAt cc0_scratch2 (slotIx r u)).sem)
/-- `c`'s credit semaphore of ring `r`. -/
abbrev credCell (c : Dev nD) (r : Fin 4) : GSem nD τ sig := ((c : Thread nD τ), .reg (credSems r).sem)

theorem sendCell_add3 (c : Dev nD) (r : Fin 4) (u : ℕ) : sendCell c r (u + 3) = sendCell c r u := by
  unfold sendCell; rw [slotIx_add3]
theorem recvCell_add3 (c : Dev nD) (r : Fin 4) (u : ℕ) : recvCell c r (u + 3) = recvCell c r u := by
  unfold recvCell; rw [slotIx_add3]

/-! ## The slots -/

/-- The communication buffer, -/
abbrev bM : Memref sig .tc .vmem S12x256x2048 .bf16 := Memref.whole cc0_scratch0

/-- a slot's credit, -/
abbrev N : ℕ := (slotMem bM 0).view.dmaCredit
theorem N_pos : 0 < N := View.dmaCredit_pos _ (by decide)
theorem credit_slot (n : Fin 12) : (slotMem bM n).view.dmaCredit = N := rfl

/-- the elements of slot `n` on device `c`, held at contents `f`, -/
def slotPts (c : Dev nD) (n : Fin 12) (f : Buf (Elt F) ((slotMem bM n).view.loc (c : Thread nD τ))) : sProp 𝕄 :=
  (slotMem bM n).view.loc (c : Thread nD τ) ↦[(slotMem bM n).view.set]{fullShare} f
/-- at any contents, -/
def slotAny (c : Dev nD) (n : Fin 12) : sProp 𝕄 := iprop(∃ f, slotPts c n f)
/-- and at contents that read as `X`. -/
def slotAt (c : Dev nD) (n : Fin 12) (X : FVec F S256x2048 .bf16) : sProp 𝕄 :=
  iprop(∃ f, ⌜(slotMem bM n).view.read (Elt F) f = X⌝ ∗ slotPts c n f)

instance slotPts_storable (c : Dev nD) (n : Fin 12) (f) : BI.Storable (upEmb : UEmb _ 𝕄) (slotPts (F := F) c n f) := by
  unfold slotPts; infer_instance
instance slotAny_storable (c : Dev nD) (n : Fin 12) : BI.Storable (upEmb : UEmb _ 𝕄) (slotAny (F := F) c n) := by
  unfold slotAny; infer_instance
instance slotAt_storable (c : Dev nD) (n : Fin 12) (X) : BI.Storable (upEmb : UEmb _ 𝕄) (slotAt (F := F) c n X) := by
  unfold slotAt; infer_instance

theorem slotAt_any (c : Dev nD) (n : Fin 12) (X : FVec F S256x2048 .bf16) : slotAt c n X ⊢ (slotAny c n : sProp 𝕄) := by
  unfold slotAt slotAny
  iintro ⟨%f, -, H⟩
  iexists f; iexact H

theorem slot_set (n : Fin 12) : (slotMem bM n).view.set = (bM.view.slice (slotRect n)).set := Memref.set_view_squeeze _ _

theorem slot_nonempty (n : Fin 12) : ((slotMem bM n).view.set).Nonempty := by
  rw [slot_set]
  refine ⟨(bM.view.slice (slotRect n)).emb (fun a => ⟨0, by revert a; exact (by decide : ∀ a : Fin 3, 0 < S1x256x2048.size a)⟩), ?_⟩
  exact View.emb_mem_set _ _

theorem slotAny_twice (c : Dev nD) (n : Fin 12) : iprop(slotAny c n ∗ slotAny c n) ⊢ (False : sProp 𝕄) := by
  exact Release.slot_slot_false (slot_nonempty n)

/-! ## What is handed over -/

/-- The slots a neighbour opens to `c`'s ring `r` at the start. -/
def opened (c : Dev nD) (r : Fin 4) : sProp 𝕄 := iprop(slotAny (tgt c r) (slotIx r 1) ∗ slotAny (tgt c r) (slotIx r 2))

instance opened_storable (c : Dev nD) (r : Fin 4) : BI.Storable (upEmb : UEmb _ 𝕄) (opened (F := F) c r) := by
  unfold opened; infer_instance

/-- That the device `c`'s ring `r` sends to has made its first `k` releases. -/
def heard (c : Dev nD) (r : Fin 4) (k : ℕ) : sProp 𝕄 :=
  bigSep (Finset.Icc 1 k) fun k' => Release.released ES (tgt c r, r, k') 1

instance heard_persistent (c : Dev nD) (r : Fin 4) (k : ℕ) : BI.Persistent (heard (F := F) c r k) := by
  unfold heard; infer_instance
instance heard_storable (c : Dev nD) (r : Fin 4) (k : ℕ) : BI.Storable (upEmb : UEmb _ 𝕄) (heard (F := F) c r k) := by
  unfold heard; infer_instance

/-- What waits in the invariant of `c`'s release `k` on ring `r`: the slot, and that `c` has reached the round of
    the copy that will next land in it. -/
def relSlot (x : SlotKey) : sProp 𝕄 :=
  iprop(slotAny x.1 (slotIx x.2.1 (x.2.2 + 2)) ∗ reached ER (recvCell x.1 x.2.1 (x.2.2 + 2)) ((x.2.2 + 1) / 3))

instance relSlot_storable (x : SlotKey) : BI.Storable (upEmb : UEmb _ 𝕄) (relSlot (F := F) x) := by
  unfold relSlot; infer_instance

theorem relSlot_twice (x : SlotKey) : iprop(relSlot x ∗ relSlot x) ⊢ (False : sProp 𝕄) := by
  unfold relSlot
  iintro ⟨⟨H1, -⟩, H2, -⟩
  iapply (slotAny_twice (F := F) x.1 (slotIx x.2.1 (x.2.2 + 2)))
  isplitl [H1] <;> iassumption

/-! ## The schedule -/

variable (V : Dev nD → Fin 4 → ℕ → FVec F S256x2048 .bf16)

/-- The duties of a semaphore's round, by the semaphore's role; -/
def roleDuties (R : ℕ) : Role → Finset ℕ
  | .bar => if R = 0 then {0, 1} else ∅
  | .send _ => if R < 5 then {0} else ∅
  | .recv _ => if R < 5 then {0} else ∅
  | .cred _ => if R = 0 then Finset.Icc 1 13 else ∅
  | .other => ∅

/-- their units; -/
def roleAmount : Role → ℕ
  | .send _ => N
  | .recv _ => N
  | _ => 1

/-- and what they hand over. `V c r u` is the sum that copy `u` of ring `r` carries away from `c`. -/
def rolePay (c : Dev nD) (R k : ℕ) : Role → sProp 𝕄
  | .bar => if k = 0 then iprop(opened c 1 ∗ opened c 3) else iprop(opened c 0 ∗ opened c 2)
  | .send n => slotAny c n
  | .recv n => slotAt c n (V (src c (ringOf n)) (ringOf n) (copyOf n R))
  | .cred r => heard c r k
  | .other => iprop(emp)

instance rolePay_storable (c : Dev nD) (R k : ℕ) (x : Role) :
    BI.Storable (upEmb : UEmb _ 𝕄) (rolePay V c R k x) := by
  cases x with
  | bar =>
    show BI.Storable upEmb (if k = 0 then iprop(opened c 1 ∗ opened c 3) else iprop(opened c 0 ∗ opened c 2))
    by_cases h : k = 0
    · rw [if_pos h]; infer_instance
    · rw [if_neg h]; infer_instance
  | _ => unfold rolePay; infer_instance

def Rd : Rounds.Schedule (GSem nD τ sig) ℕ 𝕄 where
  duties g R := if g.1.2 = .tc then roleDuties R (role g.2) else ∅
  unitless _ := False
  amount g _ _ := roleAmount (role g.2)
  payload g R k := rolePay V g.1.1 R k (role g.2)
  amount_pos g _ _ _ := by
    unfold roleAmount; split
    · exact N_pos
    · exact N_pos
    · exact Nat.one_pos

instance Rd_payload_storable (g : GSem nD τ sig) (R k : ℕ) :
    BI.Storable (upEmb : UEmb _ 𝕄) ((Rd V).payload g R k) := rolePay_storable V g.1.1 R k (role g.2)

section Tables
variable (c : Dev nD) (r : Fin 4) (u : ℕ)

theorem duties_bar : (Rd V).duties (barCell c) 0 = {0, 1} := by
  dsimp only [Rd]; rw [role_bar]; rfl
theorem duties_send (R : ℕ) (h : R < 5) : (Rd V).duties (sendCell c r u) R = {0} := by
  dsimp only [Rd]; rw [role_send, if_pos rfl]; exact if_pos h
theorem duties_recv (R : ℕ) (h : R < 5) : (Rd V).duties (recvCell c r u) R = {0} := by
  dsimp only [Rd]; rw [role_recv, if_pos rfl]; exact if_pos h
theorem duties_cred : (Rd V).duties (credCell c r) 0 = Finset.Icc 1 13 := by
  dsimp only [Rd]; rw [role_cred, if_pos rfl]; rfl

theorem duties_bar_later (R : ℕ) (h : 1 ≤ R) : (Rd V).duties (barCell c) R = ∅ := by
  dsimp only [Rd]; rw [role_bar, if_pos rfl]; exact if_neg (by omega)
theorem duties_send_later (R : ℕ) (h : 5 ≤ R) : (Rd V).duties (sendCell c r u) R = ∅ := by
  dsimp only [Rd]; rw [role_send, if_pos rfl]; exact if_neg (by omega)
theorem duties_recv_later (R : ℕ) (h : 5 ≤ R) : (Rd V).duties (recvCell c r u) R = ∅ := by
  dsimp only [Rd]; rw [role_recv, if_pos rfl]; exact if_neg (by omega)
theorem duties_cred_later (R : ℕ) (h : 1 ≤ R) : (Rd V).duties (credCell c r) R = ∅ := by
  dsimp only [Rd]; rw [role_cred, if_pos rfl]; exact if_neg (by omega)

theorem amount_bar (R k : ℕ) : (Rd V).amount (barCell c) R k = 1 := by dsimp only [Rd]; rw [role_bar]; rfl
theorem amount_send (R k : ℕ) : (Rd V).amount (sendCell c r u) R k = N := by dsimp only [Rd]; rw [role_send]; rfl
theorem amount_recv (R k : ℕ) : (Rd V).amount (recvCell c r u) R k = N := by dsimp only [Rd]; rw [role_recv]; rfl
theorem amount_cred (R k : ℕ) : (Rd V).amount (credCell c r) R k = 1 := by dsimp only [Rd]; rw [role_cred]; rfl

theorem expect_bar : (Rd V).expect (barCell c) 0 = 2 := by
  unfold Schedule.expect Schedule.amountOf
  rw [duties_bar, Finset.sum_congr rfl fun k _ => amount_bar V c 0 k]; rfl
theorem expect_send (R : ℕ) (h : R < 5) : (Rd V).expect (sendCell c r u) R = N := by
  unfold Schedule.expect Schedule.amountOf; rw [duties_send V c r u R h, Finset.sum_singleton, amount_send]
theorem expect_recv (R : ℕ) (h : R < 5) : (Rd V).expect (recvCell c r u) R = N := by
  unfold Schedule.expect Schedule.amountOf; rw [duties_recv V c r u R h, Finset.sum_singleton, amount_recv]
theorem expect_cred : (Rd V).expect (credCell c r) 0 = 13 := by
  unfold Schedule.expect Schedule.amountOf
  rw [duties_cred, Finset.sum_congr rfl fun k _ => amount_cred V c r 0 k]; rfl

theorem payload_bar0 : (Rd V).payload (barCell c) 0 0 = iprop(opened c 1 ∗ opened c 3) := by
  dsimp only [Rd]; rw [role_bar]; rfl
theorem payload_bar1 : (Rd V).payload (barCell c) 0 1 = iprop(opened c 0 ∗ opened c 2) := by
  dsimp only [Rd]; rw [role_bar]; rfl
theorem payload_send (R k : ℕ) : (Rd V).payload (sendCell c r u) R k = slotAny c (slotIx r u) := by
  dsimp only [Rd]; rw [role_send]; rfl
theorem payload_recv (k : ℕ) :
    (Rd V).payload (recvCell c r (u + 1)) (u / 3) k = slotAt c (slotIx r (u + 1)) (V (src c r) r u) := by
  dsimp only [Rd]; rw [role_recv]; dsimp only [rolePay]; rw [ringOf_slotIx, copyOf_slotIx]
theorem payload_cred (R k : ℕ) : (Rd V).payload (credCell c r) R k = heard c r k := by
  dsimp only [Rd]; rw [role_cred]; rfl

end Tables

/-! ## What each device owes; the levels -/

/-- What `c` pays at copy `t` of ring `r`: the credit before it, and the copy. -/
def due (c : Dev nD) (r : Fin 4) (t : ℕ) : CellTallies nD τ sig ℕ :=
  tallyAt (recvCell (tgt c r) r (t + 1)) t N + (if 1 ≤ t ∧ t ≤ 13 then tallyAt (credCell (src c r) r) t 1 else 0)

/-- What `c` pays at copy `t` of the four rings; -/
def duesAt (c : Dev nD) (t : ℕ) : CellTallies nD τ sig ℕ := due c 3 t + due c 2 t + due c 1 t + due c 0 t

/-- and from copy `t` on, `n` copies. -/
def duesFrom (c : Dev nD) : ℕ → ℕ → CellTallies nD τ sig ℕ
  | 0, _ => 0
  | n + 1, t => duesFrom c n (t + 1) + duesAt c t

/-- What `c` owes at launch. -/
def O₀ (c : Dev nD) : CellTallies nD τ sig ℕ :=
  duesFrom c 15 0 + tallyAt (barCell (tgt c 0)) 0 1 + tallyAt (barCell (tgt c 1)) 0 1

def L (g : GSem nD τ sig) : Finset ℕ := if g.1.2 = .tc then Finset.range 16 else ∅

/-- The barrier below everything a copy pays; the units of a copy and of a credit by their step. -/
def lv (g : GSem nD τ sig) (i : ℕ) : ℕ :=
  match role g.2 with
  | .bar => 1
  | .recv _ => i + 2
  | .cred _ => i + 2
  | _ => 0

theorem L_of_ne (g : GSem nD τ sig) (h : g.1.2 ≠ .tc) : L g = ∅ := if_neg h
theorem mem_L (c : Dev nD) (sm : SemLoc sig) (i : ℕ) (h : i < 16) : i ∈ L ((c : Thread nD τ), sm) := by
  unfold L; rw [if_pos rfl]; exact Finset.mem_range.mpr h

theorem lv_bar (c : Dev nD) (i : ℕ) : lv (barCell c) i = 1 := by unfold lv; rw [role_bar]
theorem lv_send (c : Dev nD) (r : Fin 4) (u i : ℕ) : lv (sendCell c r u) i = 0 := by unfold lv; rw [role_send]
theorem lv_recv (c : Dev nD) (r : Fin 4) (u i : ℕ) : lv (recvCell c r u) i = i + 2 := by unfold lv; rw [role_recv]
theorem lv_cred (c : Dev nD) (r : Fin 4) (i : ℕ) : lv (credCell c r) i = i + 2 := by unfold lv; rw [role_cred]

/-- Everything in `X` sits above level `l`. -/
def Above (l : ℕ) (X : CellTallies nD τ sig ℕ) : Prop := ∀ g i, 0 < X g i → i ∈ L g ∧ l < lv g i

theorem above_zero (l : ℕ) : Above l 0 := fun g i h => absurd h (Nat.lt_irrefl 0)
theorem Above.add {l : ℕ} {X Y : CellTallies nD τ sig ℕ} (hX : Above l X) (hY : Above l Y) : Above l (X + Y) := fun g i h => by
  rw [Pi.add_apply, Finsupp.add_apply] at h
  rcases Nat.eq_zero_or_pos (X g i) with h0 | h0
  · exact hY g i (by omega)
  · exact hX g i h0
theorem Above.mono {l l' : ℕ} {X : CellTallies nD τ sig ℕ} (h : l' ≤ l) (hX : Above l X) : Above l' X :=
  fun g i hg => ⟨(hX g i hg).1, lt_of_le_of_lt h (hX g i hg).2⟩
theorem above_tallyAt {l : ℕ} {g : GSem nD τ sig} {i n : ℕ} (hi : i ∈ L g) (hl : l < lv g i) : Above l (tallyAt g i n) :=
  fun g' i' h => by
    rw [tallyAt_apply] at h
    by_cases h' : g' = g ∧ i' = i
    · rw [h'.1, h'.2]; exact ⟨hi, hl⟩
    · rw [if_neg h'] at h; exact absurd h (Nat.lt_irrefl 0)

theorem above_copy (c : Dev nD) (r : Fin 4) (t : ℕ) (ht : t < 15) :
    Above (t + 1) (tallyAt (recvCell (tgt c r) r (t + 1)) t N) :=
  above_tallyAt (mem_L _ _ _ (by omega)) (by rw [lv_recv]; omega)
theorem above_due (c : Dev nD) (r : Fin 4) (t : ℕ) (ht : t < 15) : Above (t + 1) (due c r t) := by
  refine (above_copy c r t ht).add ?_
  split
  · exact above_tallyAt (mem_L _ _ _ (by omega)) (by rw [lv_cred]; omega)
  · exact above_zero _
theorem above_duesAt (c : Dev nD) (t : ℕ) (ht : t < 15) : Above (t + 1) (duesAt c t) :=
  (((above_due c 3 t ht).add (above_due c 2 t ht)).add (above_due c 1 t ht)).add (above_due c 0 t ht)
theorem above_duesFrom (c : Dev nD) : ∀ n t, t + n ≤ 15 → Above (t + 1) (duesFrom c n t)
  | 0, _, _ => above_zero _
  | n + 1, t, h => ((above_duesFrom c n (t + 1) (by omega)).mono (by omega)).add (above_duesAt c t (by omega))
theorem above_O₀ (c : Dev nD) : Above 0 (O₀ c) :=
  (((above_duesFrom c 15 0 (by omega)).mono (by omega)).add (above_tallyAt (mem_L _ _ _ (by omega)) (by rw [lv_bar]; omega))).add
    (above_tallyAt (mem_L _ _ _ (by omega)) (by rw [lv_bar]; omega))

theorem mayWait {c : Dev nD} {sm : SemLoc sig} {i l : ℕ} {X : CellTallies nD τ sig ℕ} (hi : i < 16)
    (hl : lv ((c : Thread nD τ), sm) i ≤ l) (h : Above l X) : (levAts L lv : sProp 𝕄) ⊢ MayWait (c : Thread nD τ) sm i X :=
  Pipeline.mayWait_of_levAts (mem_L c sm i hi) fun g j hg => ⟨(h g j hg).1, lt_of_le_of_lt hl (h g j hg).2⟩

end Cert.Proof

end
-- ==== Proof.Values.lean ====
/-
  What the rings compute, for any products: `P c s` are device `c`'s two products of step `s`. The sum that ring `r`
  carries away from `c` at step `s` is the one that arrived, with `c`'s quarter of step `s` added and the result
  rounded; the result adds the last quarter to the last sum and keeps it unrounded.
-/
module

public import proofs.«01_k».proof.Proof.Loop
public import Idealize.ShloMosaic.Lib.Pipeline.Value

@[expose] public section

noncomputable section

namespace Cert.Proof

open Cert.KernelIdeal Cert.KernelIdeal.Gen

open Idealize.ShloMosaic Idealize.SL.Sem

variable {F : FTy → Type} [FloatOps F]

/-- The sum ring `r` carries away from a device at step `s`. -/
def accAt (P : Dev nD → ℕ → Parts F) (r : Fin 4) : ℕ → Dev nD → FVec F S256x2048 .bf16
  | 0, c => truncf .bf16 (quarter r (P c 0)) bitsLt_bf16_f32
  | s + 1, c =>
    truncf .bf16 (addf (quarter r (P c (s + 1))) (extf .f32 (accAt P r s (src c r)) bitsLt_bf16_f32)) bitsLt_bf16_f32

/-- The same, the device first. -/
abbrev acc (P : Dev nD → ℕ → Parts F) (c : Dev nD) (r : Fin 4) (s : ℕ) : FVec F S256x2048 .bf16 := accAt P r s c

/-- Ring `r`'s columns of device `c`'s result. -/
def fin (P : Dev nD → ℕ → Parts F) (c : Dev nD) (r : Fin 4) : FVec F S256x2048 .f32 :=
  addf (quarter r (P c 15)) (extf .f32 (acc P (src c r) r 14) bitsLt_bf16_f32)

theorem payFirst_eq (P : Dev nD → ℕ → Parts F) (c : Dev nD) (r : Fin 4) :
    payFirst r (P c 0) = shapeCast S1x256x2048 (acc P c r 0) shapeCasts_S256x2048_S1x256x2048 := rfl

theorem payNext_eq (P : Dev nD → ℕ → Parts F) (c : Dev nD) (r : Fin 4) (s : ℕ) (v : Vec F S1x256x2048 .bf16)
    (hv : shapeCast S256x2048 v shapeCasts_S1x256x2048_S256x2048 = acc P (src c r) r s) :
    payNext r (P c (s + 1)) v = shapeCast S1x256x2048 (acc P c r (s + 1)) shapeCasts_S256x2048_S1x256x2048 := by
  unfold payNext addIn; rw [hv]; rfl

theorem addIn_eq (P : Dev nD → ℕ → Parts F) (c : Dev nD) (r : Fin 4) (v : Vec F S1x256x2048 .bf16)
    (hv : shapeCast S256x2048 v shapeCasts_S1x256x2048_S256x2048 = acc P (src c r) r 14) :
    addIn r (P c 15) v = fin P c r := by
  unfold addIn; rw [hv]; rfl

end Cert.Proof

end
-- ==== Proof.Steps.lean ====
/-
  The operations of a ring, each as a rule: what it needs of the protocol and what it leaves, at a symbolic device,
  ring and step. `Ring.lean` puts them together.
-/
module

public import proofs.«01_k».proof.Proof.Protocol
public import proofs.«01_k».proof.Proof.Values

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells, and what every device knows of them -/

/-- A device's cells: the barrier's, and seven to a ring: its receive cells 1, 2, 3, its send cells 0, 1, 2, its credits'. -/
abbrev CellIx : Type := Option (Fin 4 × Fin 7)

def csem : CellIx → SemLoc sig
  | none => .reg barSems.sem
  | some (r, 0) => .dma (semAt cc0_scratch2 (slotIx r 1)).sem
  | some (r, 1) => .dma (semAt cc0_scratch2 (slotIx r 2)).sem
  | some (r, 2) => .dma (semAt cc0_scratch2 (slotIx r 3)).sem
  | some (r, 3) => .dma (semAt cc0_scratch1 (slotIx r 0)).sem
  | some (r, 4) => .dma (semAt cc0_scratch1 (slotIx r 1)).sem
  | some (r, 5) => .dma (semAt cc0_scratch1 (slotIx r 2)).sem
  | some (r, 6) => .reg (credSems r).sem

theorem csem_injective : Function.Injective csem := by decide

abbrev kcell (x : Dev nD × CellIx) : GSem nD τ sig := ((x.1 : Thread nD τ), csem x.2)

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

def cells : Finset (GSem nD τ sig) := Finset.univ.map ⟨kcell, kcell_injective⟩

theorem mem_cells (c : Dev nD) (k : CellIx) : ((c : Thread nD τ), csem k) ∈ cells :=
  Finset.mem_map.mpr ⟨(c, k), Finset.mem_univ _, rfl⟩

theorem slotIx_mod (r : Fin 4) (u v : ℕ) (h : u % 3 = v % 3) : slotIx r u = slotIx r v := Fin.ext (by simp [slotIx, h])

theorem bar_mem (c : Dev nD) : barCell c ∈ cells := mem_cells c none
theorem cred_mem (c : Dev nD) (r : Fin 4) : credCell c r ∈ cells := mem_cells c (some (r, 6))
theorem send_mem (c : Dev nD) (r : Fin 4) (u : ℕ) : sendCell c r u ∈ cells := by
  have h : u % 3 = 0 ∨ u % 3 = 1 ∨ u % 3 = 2 := by omega
  rcases h with h | h | h
  · unfold sendCell; rw [slotIx_mod r u 0 h]; exact mem_cells c (some (r, 3))
  · unfold sendCell; rw [slotIx_mod r u 1 h]; exact mem_cells c (some (r, 4))
  · unfold sendCell; rw [slotIx_mod r u 2 h]; exact mem_cells c (some (r, 5))
theorem recv_mem (c : Dev nD) (r : Fin 4) (u : ℕ) : recvCell c r u ∈ cells := by
  have h : u % 3 = 0 ∨ u % 3 = 1 ∨ u % 3 = 2 := by omega
  rcases h with h | h | h
  · unfold recvCell; rw [slotIx_mod r u 3 h]; exact mem_cells c (some (r, 2))
  · unfold recvCell; rw [slotIx_mod r u 1 h]; exact mem_cells c (some (r, 0))
  · unfold recvCell; rw [slotIx_mod r u 2 h]; exact mem_cells c (some (r, 1))

/-- The releases there are. -/
def keys : Finset SlotKey := Finset.univ ×ˢ (Finset.univ ×ˢ Finset.range 15)

theorem mem_keys (c : Dev nD) (r : Fin 4) (k : ℕ) (h : k < 15) : (c, r, k) ∈ keys := by
  unfold keys; simp only [Finset.mem_product, Finset.mem_univ, true_and, Finset.mem_range]; exact h

section
variable (V : Dev nD → Fin 4 → ℕ → FVec F S256x2048 .bf16) (K : GSem nD τ sig → ℕ) (κ : SlotKey → ℕ)

/-- What every device knows: the cells' and the releases' invariants, that round 0 of every cell is reached, the levels. -/
def recs : sProp 𝕄 :=
  iprop((bigSep cells fun g => cellInv ER (Rd V) (K g) g) ∗ (bigSep cells fun g => reached ER g 0)
    ∗ (bigSep keys fun k => Release.slotInv ES (κ k) k (relSlot k)) ∗ levAts L lv)

instance recs_persistent : BI.Persistent (recs V K κ) := by unfold recs; infer_instance

theorem recs_inv {g : GSem nD τ sig} (h : g ∈ cells) : recs V K κ ⊢ cellInv ER (Rd V) (K g) g := by
  have e : (bigSep cells fun g => (cellInv ER (Rd V) (K g) g : sProp 𝕄)) ⊢ cellInv ER (Rd V) (K g) g := bigSep_elim h
  unfold recs
  iintro ⟨H, -, -, -⟩
  iapply e; iexact H
theorem recs_reached {g : GSem nD τ sig} (h : g ∈ cells) : recs V K κ ⊢ reached ER g 0 := by
  have e : (bigSep cells fun g => (reached ER g 0 : sProp 𝕄)) ⊢ reached ER g 0 := bigSep_elim h
  unfold recs
  iintro ⟨-, H, -, -⟩
  iapply e; iexact H
theorem recs_slot {k : SlotKey} (h : k ∈ keys) : recs V K κ ⊢ Release.slotInv ES (κ k) k (relSlot k) := by
  have e : (bigSep keys fun k => (Release.slotInv ES (κ k) k (relSlot k) : sProp 𝕄)) ⊢ Release.slotInv ES (κ k) k (relSlot k) :=
    bigSep_elim h
  unfold recs
  iintro ⟨-, -, H, -⟩
  iapply e; iexact H
theorem recs_mayWait {c : Dev nD} {sm : SemLoc sig} {i l : ℕ} {X : CellTallies nD τ sig ℕ} (hi : i < 16)
    (hl : lv ((c : Thread nD τ), sm) i ≤ l) (h : Above l X) : recs V K κ ⊢ MayWait (c : Thread nD τ) sm i X := by
  unfold recs
  iintro ⟨-, -, -, H⟩
  iapply (mayWait hi hl h)
  iexact H

/-- Device `c` owes `X`. -/
def owing (c : Dev nD) (X : CellTallies nD τ sig ℕ) : sProp 𝕄 := iprop(∃ W, owes (c : Thread nD τ) X W)

/-! ## The slots' loads and stores -/

variable (hb : bM.IsWhole) (c : Dev nD) (r : Fin 4)

theorem slot_sub (n : Fin 12) : (bM.access (slotRect n)).set ⊆ (slotMem bM n).view.set := by
  rw [slot_set]

theorem read_slot (n : Fin 12) (f : (cc0_scratch0 : Ref sig .tc).ty.Contents (Elt F)) :
    (slotMem bM n).view.read (Elt F) f
      = shapeCast S256x2048 (bM.view.readAt (Elt F) (slotRect n).toLoadRect f) shapeCasts_S1x256x2048_S256x2048 :=
  Memref.read_squeeze_slice bM (slotRect n) (fun _ => rfl) squeezes_S1x256x2048_S256x2048 _ f

theorem read_stored (n : Fin 12) (f : (cc0_scratch0 : Ref sig .tc).ty.Contents (Elt F)) (X : FVec F S256x2048 .bf16) :
    (slotMem bM n).view.read (Elt F) ((bM.access (slotRect n)).write (Elt F) f
      (shapeCast S1x256x2048 X shapeCasts_S256x2048_S1x256x2048) Finset.univ) = X := by
  rw [read_slot]
  have h : bM.view.readAt (Elt F) (slotRect n).toLoadRect ((bM.access (slotRect n)).write (Elt F) f
      (shapeCast S1x256x2048 X shapeCasts_S256x2048_S1x256x2048) Finset.univ)
      = shapeCast S1x256x2048 X shapeCasts_S256x2048_S1x256x2048 := by
    rw [View.readAt_rect]
    exact View.read_write_univ (v := bM.access (slotRect n)) f (shapeCast S1x256x2048 X shapeCasts_S256x2048_S1x256x2048)
  rw [h]; exact shapeCast_shapeCast X shapeCasts_S256x2048_S1x256x2048 shapeCasts_S1x256x2048_S256x2048

theorem wp_loadSlot (n : Fin 12) (X : FVec F S256x2048 .bf16) (Q : Vec F S1x256x2048 .bf16 → sProp 𝕄) :
    iprop(slotAt c n X ∗ (∀ v : Vec F S1x256x2048 .bf16,
        (⌜shapeCast S256x2048 v shapeCasts_S1x256x2048_S256x2048 = X⌝ ∗ slotAt c n X) -∗ Q v))
      ⊢ WP c (loadSlot bM n) Q := by
  unfold slotAt slotPts
  iintro ⟨⟨%f, %hf, H⟩, Hk⟩
  iapply (wp_load_rect 𝒱₀ (c : Thread nD τ) none Set.univ (m := bM) (r := slotRect n) (slot_sub n)) $$ H
  iintro H
  rw [wp_ret]; imodintro
  iapply Hk
  isplitr
  · ipureintro; rw [← hf]; exact (read_slot n f).symm
  · iexists f; isplitr
    · ipureintro; exact hf
    · iexact H

theorem wp_loadAny (n : Fin 12) (Q : Vec F S1x256x2048 .bf16 → sProp 𝕄) :
    iprop(slotAny c n ∗ (∀ v : Vec F S1x256x2048 .bf16, slotAny c n -∗ Q v)) ⊢ WP c (loadSlot bM n) Q := by
  unfold slotAny slotPts
  iintro ⟨⟨%f, H⟩, Hk⟩
  iapply (wp_load_rect 𝒱₀ (c : Thread nD τ) none Set.univ (m := bM) (r := slotRect n) (slot_sub n)) $$ H
  iintro H
  rw [wp_ret]; imodintro
  iapply Hk
  iexists f; iexact H

theorem wp_storeSlot (n : Fin 12) (X : FVec F S256x2048 .bf16) (v : FVec F S1x256x2048 .bf16)
    (hv : v = shapeCast S1x256x2048 X shapeCasts_S256x2048_S1x256x2048) (Q : PUnit → sProp 𝕄) :
    iprop(slotAny c n ∗ (slotAt c n X -∗ Q ⟨⟩)) ⊢ WP c (storeSlot bM hb n v) Q := by
  subst hv
  unfold slotAt slotAny slotPts
  iintro ⟨⟨%f, H⟩, Hk⟩
  iapply (wp_store 𝒱₀ (c : Thread nD τ) none Set.univ (m := bM) (r := slotRect n) (Mk := Finset.univ) (slot_sub n)) $$ H
  iintro H
  rw [wp_ret]; imodintro
  iapply Hk
  iexists _; isplitr
  · ipureintro; exact read_stored n f X
  · iexact H

/-! ## The copies and their waits -/

theorem rest_send (s : ℕ) (hs : s < 15) :
    bigSep ((Rd V).duties (sendCell c r s) (s / 3) \ ∅) (fun k => (Rd V).payload (sendCell c r s) (s / 3) k)
      = slotAny c (slotIx r s) := by
  rw [Finset.sdiff_empty, duties_send V c r s _ (by omega), bigSep_singleton, payload_send]

theorem rest_recv (s : ℕ) (hs : s < 15) :
    bigSep ((Rd V).duties (recvCell c r (s + 1)) (s / 3) \ ∅) (fun k => (Rd V).payload (recvCell c r (s + 1)) (s / 3) k)
      = slotAt c (slotIx r (s + 1)) (V (src c r) r s) := by
  rw [Finset.sdiff_empty, duties_recv V c r (s + 1) _ (by omega), bigSep_singleton, payload_recv]

theorem wp_sendSlot (t : ℕ) (ht : t < 15) (X : CellTallies nD τ sig ℕ) (Q : PUnit → sProp 𝕄) :
    iprop(recs V K κ ∗ slotAt c (slotIx r t) (V c r t) ∗ slotAny (tgt c r) (slotIx r (t + 1))
        ∗ owing c (X + tallyAt (recvCell (tgt c r) r (t + 1)) t N)
        ∗ dutyTok ER (sendCell c r t) (t / 3) 0 ∗ reached ER (sendCell c r t) (t / 3)
        ∗ dutyTok ER (recvCell (tgt c r) r (t + 1)) (t / 3) 0 ∗ reached ER (recvCell (tgt c r) r (t + 1)) (t / 3)
        ∗ ((cred (tallyAt (sendCell c r t) 0 N) ∗ owing c X) -∗ Q ⟨⟩))
      ⊢ WP c (sendSlot bM hb cc0_scratch1 cc0_scratch2 c r t) Q := by
  unfold slotAt slotAny owing
  iintro ⟨#HR, ⟨%fs, %hfs, Hs⟩, ⟨%fd, Hd⟩, ⟨%W, HO⟩, HtS, HrS, HtR, HrR, Hk⟩
  unfold slotPts
  iapply (Rounds.wp_send_pointsTo 𝒱₀ ER (Rd V) (c : Thread nD τ) none (κ₁ := K (sendCell c r t)) (κ₂ := K (recvCell (tgt c r) r (t + 1)))
    (r₁ := t / 3) (r₂ := t / 3) (d₁ := 0) (d₂ := 0) (fd := fd)
    (by rw [duties_send V c r t _ (by omega)]; exact Finset.mem_singleton_self _)
    (by rw [duties_recv V (tgt c r) r (t + 1) _ (by omega)]; exact Finset.mem_singleton_self _)
    t 0 N rfl (amount_send V c r t _ _) (amount_recv V (tgt c r) r (t + 1) _ _) X rfl (W := W)
    (by rw [payload_send]; unfold slotAny slotPts; iintro H; iexists fs; iexact H)
    (by
      rw [payload_recv, src_tgt]; unfold slotAt slotPts
      iintro H; iexists _; isplitr
      · ipureintro; exact (View.read_write_univ fd _).trans hfs
      · iexact H)) $$ [Hs Hd HO HtS HrS HtR HrR]
  · isplitr; · iapply (recs_inv V K κ (send_mem c r t)); iexact HR
    isplitr; · iapply (recs_inv V K κ (recv_mem (tgt c r) r (t + 1))); iexact HR
    isplitl [Hs]; · iexact Hs
    isplitl [Hd]; · iexact Hd
    isplitl [HO]; · iexact HO
    isplitl [HtS]; · iexact HtS
    isplitl [HrS]; · iexact HrS
    isplitl [HtR]; · iexact HtR
    iexact HrR
  iintro ⟨Hc, HO⟩
  rw [wp_ret]; imodintro
  iapply Hk
  isplitl [Hc]; · iexact Hc
  iexists W; iexact HO

theorem wp_waitSent (s : ℕ) (hs : s < 15) (X : CellTallies nD τ sig ℕ) (hX : Above 0 X) (Q : PUnit → sProp 𝕄) :
    iprop(recs V K κ ∗ cred (tallyAt (sendCell c r s) 0 N) ∗ owing c X ∗ atPos ER (sendCell c r s) (s / 3) ∅ 0
        ∗ ((owing c X ∗ atPos ER (sendCell c r (s + 1 + 1 + 1)) ((s + 1 + 1 + 1) / 3) ∅ 0 ∗ reached ER (sendCell c r (s + 1 + 1 + 1)) ((s + 1 + 1 + 1) / 3)
            ∗ slotAny c (slotIx r s)) -∗ Q ⟨⟩))
      ⊢ WP c (waitSent bM hb cc0_scratch1 r s) Q := by
  have h3 : (s + 1 + 1 + 1) / 3 = s / 3 + 1 := by omega
  rw [show sendCell c r (s + 1 + 1 + 1) = sendCell c r s from sendCell_add3 c r s, h3]
  unfold owing
  iintro ⟨#HR, Hc, ⟨%W, HO⟩, Ha, Hk⟩
  iapply (Rounds.wp_wait_rest_token 𝒱₀ ER (Rd V) (c : Thread nD τ) none (κ := K (sendCell c r s))
      (wpE_waitDma2_eq 𝒱₀ (c : Thread nD τ) none Set.univ) (Set.mem_univ _) 0 (O := X) (W := W) (R := s / 3) (m := 0) (T := ∅)
      (by rw [Nat.zero_add, expect_send V c r s _ (by omega)])) $$ [Hc HO Ha]
  · isplitr; · iapply (recs_inv V K κ (send_mem c r s)); iexact HR
    isplitl [Hc]; · iexact Hc
    isplitl [HO]; · iexact HO
    isplitr
    · iapply (recs_mayWait V K κ (c := c) (sm := .dma (semAt cc0_scratch1 (slotIx r s)).sem) (i := 0) (l := 0) (by omega)
        (le_of_eq (lv_send c r s 0)) hX)
      iexact HR
    iexact Ha
  iintro ⟨HO, Ha, Hr, Hp⟩
  ihave Hp := (Entails.of_eq (rest_send V c r s hs)) $$ Hp
  rw [wp_ret]; imodintro
  iapply Hk
  isplitl [HO]; · iexists _; iexact HO
  isplitl [Ha]; · iexact Ha
  isplitl [Hr]; · iexact Hr
  iexact Hp

theorem wp_waitLanded (s : ℕ) (hs : s < 15) (X : CellTallies nD τ sig ℕ) (hX : Above (s + 2) X) (Q : PUnit → sProp 𝕄) :
    iprop(recs V K κ ∗ cred (tallyAt (recvCell c r (s + 1)) s N) ∗ owing c X ∗ atPos ER (recvCell c r (s + 1)) (s / 3) ∅ 0
        ∗ ((owing c X ∗ atPos ER (recvCell c r (s + 1 + 1 + 1 + 1)) ((s + 1 + 1 + 1) / 3) ∅ 0 ∗ reached ER (recvCell c r (s + 1 + 1 + 1 + 1)) ((s + 1 + 1 + 1) / 3)
            ∗ slotAt c (slotIx r (s + 1)) (V (src c r) r s)) -∗ Q ⟨⟩))
      ⊢ WP c (waitLanded bM hb cc0_scratch2 r s) Q := by
  have h3 : (s + 1 + 1 + 1) / 3 = s / 3 + 1 := by omega
  rw [show recvCell c r (s + 1 + 1 + 1 + 1) = recvCell c r (s + 1) from recvCell_add3 c r (s + 1), h3]
  unfold owing
  iintro ⟨#HR, Hc, ⟨%W, HO⟩, Ha, Hk⟩
  iapply (Rounds.wp_wait_rest_token 𝒱₀ ER (Rd V) (c : Thread nD τ) none (κ := K (recvCell c r (s + 1)))
      (wpE_waitDma2_eq 𝒱₀ (c : Thread nD τ) none Set.univ) (Set.mem_univ _) s (O := X) (W := W) (R := s / 3) (m := 0) (T := ∅)
      (by rw [Nat.zero_add, expect_recv V c r (s + 1) _ (by omega)])) $$ [Hc HO Ha]
  · isplitr; · iapply (recs_inv V K κ (recv_mem c r (s + 1))); iexact HR
    isplitl [Hc]; · iexact Hc
    isplitl [HO]; · iexact HO
    isplitr
    · iapply (recs_mayWait V K κ (c := c) (sm := .dma (semAt cc0_scratch2 (slotIx r (s + 1))).sem) (i := s) (l := s + 2) (by omega)
        (le_of_eq (lv_recv c r (s + 1) s)) hX)
      iexact HR
    iexact Ha
  iintro ⟨HO, Ha, Hr, Hp⟩
  ihave Hp := (Entails.of_eq (rest_recv V c r s hs)) $$ Hp
  rw [wp_ret]; imodintro
  iapply Hk
  isplitl [HO]; · iexists _; iexact HO
  isplitl [Ha]; · iexact Ha
  isplitl [Hr]; · iexact Hr
  iexact Hp

end

end Cert.Proof

end
-- ==== Proof.Ring.lean ====
/-
  One ring at one step: the credit it gives back, the credit it takes, and the whole step, from the ring's state after
  copy `s` to its state after copy `s + 1`.
-/
module

public import proofs.«01_k».proof.Proof.Steps

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What is heard -/

theorem heard_succ (c : Dev nD) (r : Fin 4) (k : ℕ) :
    (heard c r (k + 1) : sProp 𝕄) = iprop(Release.released ES (tgt c r, r, k + 1) 1 ∗ heard c r k) := by
  have h : Finset.Icc 1 (k + 1) = insert (k + 1) (Finset.Icc 1 k) := by
    ext x; simp only [Finset.mem_Icc, Finset.mem_insert]; omega
  unfold heard
  rw [h, bigSep_insert (by simp)]; rfl

theorem heard_zero (c : Dev nD) (r : Fin 4) : (heard c r 0 : sProp 𝕄) = iprop(emp) := by
  unfold heard; rw [Finset.Icc_eq_empty (by omega), bigSep_empty]; rfl

theorem heard_get (c : Dev nD) (r : Fin 4) (j k : ℕ) (h1 : 1 ≤ j) (h2 : j ≤ k) :
    (heard c r k : sProp 𝕄) ⊢ Release.released ES (tgt c r, r, j) 1 :=
  bigSep_elim (Finset.mem_Icc.mpr ⟨h1, h2⟩)

/-- Of thirteen credits of which all but at most `13 - m` have come, one is the `m`-th or later. -/
theorem late_credit (T : Finset ℕ) (m : ℕ) (hT : T ⊆ Finset.Icc 1 13) (h : m + (Finset.Icc 1 13 \ T).card ≤ 13) (hm : 1 ≤ m) :
    ∃ k ∈ T, m ≤ k := by
  by_contra hn
  push Not at hn
  have h1 : T ⊆ Finset.Ico 1 m := fun k hk => Finset.mem_Ico.mpr ⟨(Finset.mem_Icc.mp (hT hk)).1, hn k hk⟩
  have h2 := Finset.card_le_card h1
  rw [Nat.card_Ico] at h2
  have h3 := Finset.card_sdiff_of_subset hT
  rw [Nat.card_Icc] at h3
  omega

/-- Where a device stands on its credits of ring `r`, having taken `m`: it has heard what the credits that came say. -/
def credPos (c : Dev nD) (r : Fin 4) (m : ℕ) : sProp 𝕄 :=
  if m < 13 then iprop(∃ T : Finset ℕ, ⌜T ⊆ Finset.Icc 1 13 ∧ m + (Finset.Icc 1 13 \ T).card ≤ 13⌝
    ∗ atPos ER (credCell c r) 0 T m ∗ bigSep T (heard c r))
  else atPos ER (credCell c r) 1 ∅ 0

theorem credPos_lt (c : Dev nD) (r : Fin 4) (m : ℕ) (h : m < 13) :
    (credPos c r m : sProp 𝕄) = iprop(∃ T : Finset ℕ, ⌜T ⊆ Finset.Icc 1 13 ∧ m + (Finset.Icc 1 13 \ T).card ≤ 13⌝
      ∗ atPos ER (credCell c r) 0 T m ∗ bigSep T (heard c r)) := if_pos h
theorem credPos_end (c : Dev nD) (r : Fin 4) : (credPos c r 13 : sProp 𝕄) = atPos ER (credCell c r) 1 ∅ 0 := if_neg (by omega)

theorem credPos_zero (c : Dev nD) (r : Fin 4) : (atPos ER (credCell c r) 0 ∅ 0 : sProp 𝕄) ⊢ credPos c r 0 := by
  rw [credPos_lt c r 0 (by omega)]
  iintro H
  iexists ∅
  isplitr; · ipureintro; exact ⟨Finset.empty_subset _, by decide⟩
  isplitl [H]; · iexact H
  rw [bigSep_empty]; iempintro

/-- The slot a ring's second copy needs, open since the barrier. -/
def deposit (c : Dev nD) (r : Fin 4) (s : ℕ) : sProp 𝕄 := if s = 0 then slotAny (tgt c r) (slotIx r 2) else iprop(emp)
/-- The credit a later copy waits for. -/
def credIn (c : Dev nD) (r : Fin 4) (s : ℕ) : sProp 𝕄 :=
  if 1 ≤ s then cred (tallyAt (credCell c r) s 1) else iprop(emp)
/-- The slot the last step keeps. -/
def kept (c : Dev nD) (r : Fin 4) (s : ℕ) : sProp 𝕄 := if s = 14 then slotAny c (slotIx r 13) else iprop(emp)

section
variable (V : Dev nD → Fin 4 → ℕ → FVec F S256x2048 .bf16) (K : GSem nD τ sig → ℕ) (κ : SlotKey → ℕ)
variable (hb : bM.IsWhole) (c : Dev nD) (r : Fin 4)

theorem wp_done (Q : PUnit → sProp 𝕄) : Q ⟨⟩ ⊢ WP c (pure ⟨⟩) Q := by
  show Q ⟨⟩ ⊢ wp frame (wpE (defs₀ (F := F)) 𝒱₀ (c : Thread nD τ) none) Set.univ (.ret ⟨⟩) Q
  rw [wp_ret]; iintro H; imodintro; iexact H

theorem wp_give (s : ℕ) (hs : s ≤ 13) (X : CellTallies nD τ sig ℕ) (Q : PUnit → sProp 𝕄) :
    iprop(recs V K κ ∗ slotAny c (slotIx r s) ∗ reached ER (recvCell c r (s + 1 + 1 + 1)) ((s + 1 + 1) / 3)
        ∗ Release.readerAt ES (c, r, s + 1) 0 ∗ heard (src c r) r (min s 13) ∗ dutyTok ER (credCell (src c r) r) 0 (s + 1)
        ∗ owing c (X + due c r (s + 1))
        ∗ ((owing c (X + tallyAt (recvCell (tgt c r) r (s + 1 + 1)) (s + 1) N) ∗ heard (src c r) r (min (s + 1) 13)
            ∗ kept c r (s + 1)) -∗ Q ⟨⟩))
      ⊢ WP c (giveCredit credSems c r (s + 1)) Q := by
  unfold giveCredit kept
  by_cases h : s + 1 ≤ 13
  · rw [if_pos h, if_neg (by omega), Nat.min_eq_left (by omega), Nat.min_eq_left h]
    unfold due
    rw [if_pos ⟨by omega, h⟩, ← add_assoc]
    unfold owing
    iintro ⟨#HR, Hs, #Hr, Hrd, #Hh, Ht, ⟨%W, HO⟩, Hk⟩
    imod (Release.slot_release ES (ι := κ (c, r, s + 1)) (Set.mem_univ _) (relSlot_twice (F := F) (c, r, s + 1)) 0) $$ [Hs Hrd] with ⟨-, #Hrel⟩
    · isplitr; · iapply (recs_slot V K κ (mem_keys c r (s + 1) (by omega))); iexact HR
      isplitl [Hrd]; · iexact Hrd
      unfold relSlot
      isplitl [Hs]
      · rw [show slotIx r (s + 1 + 2) = slotIx r s from slotIx_add3 r s]; iexact Hs
      iexact Hr
    ihave #Hh' := (show iprop(Release.released ES (c, r, s + 1) 1 ∗ heard (src c r) r s) ⊢ (heard (src c r) r (s + 1) : sProp 𝕄) from
      Entails.of_eq (by rw [heard_succ, tgt_src])) $$ []
    · isplitl; · iexact Hrel
      iexact Hh
    unfold semSignalWord
    iapply (Rounds.wp_signal 𝒱₀ ER (Rd V) (c : Thread nD τ) none (dst := (src c r : Thread nD τ)) (κ := K (credCell (src c r) r))
        (r := 0) (d := s + 1) (by rw [duties_cred]; exact Finset.mem_Icc.mpr ⟨by omega, h⟩) ((amount_cred V (src c r) r 0 (s + 1)).trans (by decide)) (s + 1)
        (X + tallyAt (recvCell (tgt c r) r (s + 1 + 1)) (s + 1) N) rfl) $$ [HO Ht]
    · isplitr; · iapply (recs_inv V K κ (cred_mem (src c r) r)); iexact HR
      isplitl [HO]; · iexact HO
      isplitl [Ht]; · iexact Ht
      isplitr; · rw [payload_cred]; iexact Hh'
      iapply (recs_reached V K κ (cred_mem (src c r) r)); iexact HR
    iintro HO
    rw [wp_ret]; imodintro
    iapply Hk
    isplitl [HO]; · iexists W; iexact HO
    isplitr; · iexact Hh'
    iempintro
  · have h13 : s = 13 := by omega
    subst h13
    rw [if_neg h, if_pos rfl]
    unfold due
    rw [if_neg (by omega), add_zero]
    iintro ⟨#HR, Hs, #Hr, Hrd, #Hh, Ht, HO, Hk⟩
    iapply (wp_done (F := F) c Q)
    iapply Hk
    isplitl [HO]; · iexact HO
    isplitr; · iexact Hh
    iexact Hs

theorem wp_waitCred (m : ℕ) (hm : m < 13) (X : CellTallies nD τ sig ℕ) (hX : Above (m + 3) X) (Q : PUnit → sProp 𝕄) :
    iprop(recs V K κ ∗ credPos c r m ∗ cred (tallyAt (credCell c r) (m + 1) 1) ∗ owing c X
        ∗ ((owing c X ∗ credPos c r (m + 1) ∗ Release.released ES (tgt c r, r, m + 1) 1) -∗ |={Set.univ}=> Q ⟨⟩))
      ⊢ WP c (semWaitWord (credSems r).sem 1#32) Q := by
  rw [credPos_lt c r m hm]
  unfold owing semWaitWord
  iintro ⟨#HR, ⟨%T, %hT, Ha, #Hh⟩, Hc, ⟨%W, HO⟩, Hk⟩
  by_cases h : m + 1 < 13
  · rw [credPos_lt c r (m + 1) h]
    iapply (Rounds.wp_wait 𝒱₀ ER (Rd V) (c : Thread nD τ) none (κ := K (credCell c r)) (k' := 1) (sm := .reg (credSems r).sem)
      (wpE_semWait_eq 𝒱₀ (c : Thread nD τ) none Set.univ) (Set.mem_univ _) {(.reg (credSems r).sem, m + 1)}
      (cr := Finsupp.single (m + 1) 1) (O := X) (W := W) (R := 0) (m := m) (T := T)
      (by rw [Util.total_single]) (image_single_subset _ (m + 1) 1)) $$ [Hc HO Ha]
    · isplitr; · iapply (recs_inv V K κ (cred_mem c r)); iexact HR
      isplitl [Hc]; · iexact Hc
      isplitl [HO]; · iexact HO
      isplitr
      · iapply (recs_mayWait V K κ (c := c) (sm := .reg (credSems r).sem) (i := m + 1) (l := m + 3) (by omega)
          (le_of_eq (lv_cred c r (m + 1))) hX)
        iexact HR
      iexact Ha
    iintro %S ⟨%hS, HO, Ha, Hp⟩
    rw [wp_ret]
    obtain ⟨hTS, hSd, hcard⟩ := hS
    rw [duties_cred V c r] at hSd hcard
    rw [expect_cred V c r] at hcard
    ihave Hp := (show (bigSep (S \ T) (fun k => (Rd V).payload (credCell c r) 0 k) : sProp 𝕄) ⊢ bigSep (S \ T) (heard c r) from
      Entails.of_eq (bigSep_congr fun k _ => payload_cred V c r 0 k)) $$ Hp
    ihave #Hall := (show iprop(bigSep T (heard c r) ∗ bigSep (S \ T) (heard c r)) ⊢ (bigSep S (heard c r) : sProp 𝕄) from
      Entails.of_eq (by
        conv_rhs => rw [← Finset.union_sdiff_of_subset hTS, bigSep_union Finset.disjoint_sdiff]
        rfl)) $$ [Hp]
    · isplitr; · iexact Hh
      iexact Hp
    obtain ⟨k, hk, hmk⟩ := late_credit S (m + 1) hSd hcard (by omega)
    iapply Hk
    isplitl [HO]; · iexists _; iexact HO
    isplitl [Ha]
    · iexists S
      isplitr; · ipureintro; exact ⟨hSd, hcard⟩
      isplitl [Ha]; · iexact Ha
      iexact Hall
    iapply (heard_get (F := F) c r (m + 1) k (by omega) hmk)
    iapply (show (bigSep S (heard c r) : sProp 𝕄) ⊢ heard c r k from bigSep_elim hk)
    iexact Hall
  · have h12 : m = 12 := by omega
    subst h12
    rw [credPos_end]
    iapply (Rounds.wp_wait_rest_token 𝒱₀ ER (Rd V) (c : Thread nD τ) none (κ := K (credCell c r)) (k' := 1) (sm := .reg (credSems r).sem)
      (wpE_semWait_eq 𝒱₀ (c : Thread nD τ) none Set.univ) (Set.mem_univ _) (12 + 1) (O := X) (W := W) (R := 0) (m := 12) (T := T)
      (by rw [expect_cred])) $$ [Hc HO Ha]
    · isplitr; · iapply (recs_inv V K κ (cred_mem c r)); iexact HR
      isplitl [Hc]; · iexact Hc
      isplitl [HO]; · iexact HO
      isplitr
      · iapply (recs_mayWait V K κ (c := c) (sm := .reg (credSems r).sem) (i := 12 + 1) (l := 12 + 3) (by omega)
          (le_of_eq (lv_cred c r (12 + 1))) hX)
        iexact HR
      iexact Ha
    iintro ⟨HO, Ha, -, Hp⟩
    rw [wp_ret]
    ihave Hp := (show (bigSep ((Rd V).duties (credCell c r) 0 \ T) (fun k => (Rd V).payload (credCell c r) 0 k) : sProp 𝕄)
        ⊢ bigSep (Finset.Icc 1 13 \ T) (heard c r) from
      Entails.of_eq (by rw [duties_cred]; exact bigSep_congr fun k _ => payload_cred V c r 0 k)) $$ Hp
    ihave #Hall := (show iprop(bigSep T (heard c r) ∗ bigSep (Finset.Icc 1 13 \ T) (heard c r)) ⊢ (bigSep (Finset.Icc 1 13) (heard c r) : sProp 𝕄) from
      Entails.of_eq (by
        conv_rhs => rw [← Finset.union_sdiff_of_subset hT.1, bigSep_union Finset.disjoint_sdiff]
        rfl)) $$ [Hp]
    · isplitr; · iexact Hh
      iexact Hp
    iapply Hk
    isplitl [HO]; · iexists _; iexact HO
    isplitl [Ha]; · iexact Ha
    iapply (heard_get (F := F) c r (12 + 1) 13 (by omega) (by omega))
    iapply (show (bigSep (Finset.Icc 1 13) (heard c r) : sProp 𝕄) ⊢ heard c r 13 from bigSep_elim (by simp))
    iexact Hall

theorem wp_take (s : ℕ) (hs : s ≤ 13) (X : CellTallies nD τ sig ℕ) (hX : Above (s + 2) X) (Q : PUnit → sProp 𝕄) :
    iprop(recs V K κ ∗ credPos c r (s - 1) ∗ deposit c r s ∗ credIn c r s ∗ Release.writeTok ES (tgt c r, r, s) 1 ∗ owing c X
        ∗ ((owing c X ∗ credPos c r (s + 1 - 1) ∗ slotAny (tgt c r) (slotIx r (s + 1 + 1))
            ∗ reached ER (recvCell (tgt c r) r (s + 1 + 1)) ((s + 1) / 3)) -∗ Q ⟨⟩))
      ⊢ WP c (takeCredit credSems r (s + 1)) Q := by
  unfold takeCredit deposit credIn
  rcases Nat.eq_zero_or_pos s with h | h
  · subst h
    rw [if_neg (show ¬ 2 ≤ 0 + 1 by omega), if_pos (show 0 = 0 from rfl)]
    iintro ⟨#HR, Hp, Hs, -, -, HO, Hk⟩
    iapply (wp_done (F := F) c Q)
    iapply Hk
    isplitl [HO]; · iexact HO
    isplitl [Hp]; · iexact Hp
    isplitl [Hs]; · iexact Hs
    iapply (recs_reached V K κ (recv_mem (tgt c r) r 2)); iexact HR
  · obtain ⟨m, rfl⟩ : ∃ m, s = m + 1 := ⟨s - 1, by omega⟩
    rw [if_pos (show 2 ≤ m + 1 + 1 by omega), if_neg (show ¬ m + 1 = 0 by omega), if_pos (show 1 ≤ m + 1 by omega), Nat.add_sub_cancel, Nat.add_sub_cancel]
    iintro ⟨#HR, Hp, -, Hc, Hw, HO, Hk⟩
    iapply (wp_waitCred V K κ c r m (by omega) X hX)
    isplitr; · iexact HR
    isplitl [Hp]; · iexact Hp
    isplitl [Hc]; · iexact Hc
    isplitl [HO]; · iexact HO
    iintro ⟨HO, Hp, #Hrel⟩
    imod (Release.slot_take ES (ι := κ (tgt c r, r, m + 1)) (S := relSlot (F := F) (tgt c r, r, m + 1)) (Set.mem_univ _) 1) $$ [Hw] with Hs
    · isplitr; · iapply (recs_slot V K κ (mem_keys (tgt c r) r (m + 1) (by omega))); iexact HR
      isplitr; · iexact Hrel
      iexact Hw
    imodintro
    unfold relSlot
    icases Hs with ⟨Hs, Hr⟩
    iapply Hk
    isplitl [HO]; · iexact HO
    isplitl [Hp]; · iexact Hp
    isplitl [Hs]; · iexact Hs
    iexact Hr

/-! ## A ring's state -/

/-- Ring `r` of device `c` after copy `s`: where it stands on its three receive and three send cells, on its credits and
    on its own releases; that its slot will come back from copy `s`. -/
def ringSt (s : ℕ) : sProp 𝕄 :=
  iprop(atPos ER (recvCell c r (s + 1)) (s / 3) ∅ 0 ∗ atPos ER (recvCell c r (s + 1 + 1)) ((s + 1) / 3) ∅ 0
    ∗ atPos ER (recvCell c r (s + 1 + 1 + 1)) ((s + 1 + 1) / 3) ∅ 0
    ∗ atPos ER (sendCell c r s) (s / 3) ∅ 0 ∗ atPos ER (sendCell c r (s + 1)) ((s + 1) / 3) ∅ 0
    ∗ atPos ER (sendCell c r (s + 1 + 1)) ((s + 1 + 1) / 3) ∅ 0
    ∗ reached ER (recvCell c r (s + 1 + 1 + 1)) ((s + 1 + 1) / 3)
    ∗ reached ER (sendCell c r (s + 1)) ((s + 1) / 3) ∗ reached ER (sendCell c r (s + 1 + 1)) ((s + 1 + 1) / 3)
    ∗ credPos c r (s - 1) ∗ heard (src c r) r (min s 13) ∗ cred (tallyAt (sendCell c r s) 0 N) ∗ deposit c r s ∗ kept c r s)

/-- What copy `s` is paid with: the tokens of its two duties. -/
def copyToks (s : ℕ) : sProp 𝕄 :=
  iprop(dutyTok ER (sendCell c r s) (s / 3) 0 ∗ dutyTok ER (recvCell (tgt c r) r (s + 1)) (s / 3) 0)

/-- What step `s + 1` uses up besides: the copy that arrives, the credit given, the release made, the credit taken, the
    release taken. -/
def stepRes (s : ℕ) : sProp 𝕄 :=
  iprop(cred (tallyAt (recvCell c r (s + 1)) s N) ∗ copyToks c r (s + 1) ∗ dutyTok ER (credCell (src c r) r) 0 (s + 1)
    ∗ Release.readerAt ES (c, r, s + 1) 0 ∗ Release.writeTok ES (tgt c r, r, s) 1 ∗ credIn c r s)

end

section
variable (P : Dev nD → ℕ → Parts F) (K : GSem nD τ sig → ℕ) (κ : SlotKey → ℕ)
variable (hb : bM.IsWhole) (c : Dev nD) (r : Fin 4)

set_option maxHeartbeats 1000000 in
theorem wp_next (s : ℕ) (hs : s ≤ 13) (X : CellTallies nD τ sig ℕ) (hX : Above (s + 2) X) (Q : PUnit → sProp 𝕄) :
    iprop(recs (acc P) K κ ∗ ringSt c r s ∗ stepRes c r s ∗ owing c (X + due c r (s + 1))
        ∗ ((ringSt c r (s + 1) ∗ owing c X) -∗ Q ⟨⟩))
      ⊢ WP c (next bM hb cc0_scratch1 cc0_scratch2 credSems c r s (P c (s + 1))) Q := by
  have hcopy : Above (s + 2) (tallyAt (recvCell (tgt c r) r (s + 1 + 1)) (s + 1) N) := above_copy c r (s + 1) (by omega)
  unfold next
  simp only [WP, wp_bind]
  conv_lhs => unfold ringSt stepRes copyToks
  iintro ⟨#HR, ⟨P0, P1, P2, Q0, Q1, Q2, #RP2, #RQ1, #RQ2, HC, #HH, Hc, Hcl, -⟩, ⟨HcR, ⟨HtS, HtR⟩, HtC, Hrd, Hwt, Hci⟩, HO, Hk⟩
  iapply (wp_waitSent (acc P) K κ hb c r s (by omega) (X + due c r (s + 1))
    ((hX.mono (by omega)).add ((above_due c r (s + 1) (by omega)).mono (by omega))))
  isplitr; · iexact HR
  isplitl [Hc]; · iexact Hc
  isplitl [HO]; · iexact HO
  isplitl [Q0]; · iexact Q0
  iintro ⟨HO, Q3, #RQ3, Hs⟩
  iapply (wp_give (acc P) K κ c r s hs X)
  isplitr; · iexact HR
  isplitl [Hs]; · iexact Hs
  isplitr; · iexact RP2
  isplitl [Hrd]; · iexact Hrd
  isplitr; · iexact HH
  isplitl [HtC]; · iexact HtC
  isplitl [HO]; · iexact HO
  iintro ⟨HO, #HH', Hkept⟩
  iapply (wp_waitLanded (acc P) K κ hb c r s (by omega) _ (hX.add hcopy))
  isplitr; · iexact HR
  isplitl [HcR]; · iexact HcR
  isplitl [HO]; · iexact HO
  isplitl [P0]; · iexact P0
  iintro ⟨HO, P3, #RP3, Hs⟩
  iapply (wp_loadSlot c (slotIx r (s + 1)) (acc P (src c r) r s))
  isplitl [Hs]; · iexact Hs
  iintro %v ⟨%hv, Hs⟩
  iapply (wp_loadSlot c (slotIx r (s + 1)) (acc P (src c r) r s))
  isplitl [Hs]; · iexact Hs
  iintro %v' ⟨-, Hs⟩
  iapply (wp_storeSlot hb c (slotIx r (s + 1)) (acc P c r (s + 1)) _ (payNext_eq P c r s v hv))
  isplitl [Hs]; · iapply (slotAt_any (F := F) c (slotIx r (s + 1)) (acc P (src c r) r s)); iexact Hs
  iintro Hs
  iapply (wp_take (acc P) K κ c r s hs _ (hX.add hcopy))
  isplitr; · iexact HR
  isplitl [HC]; · iexact HC
  isplitl [Hcl]; · iexact Hcl
  isplitl [Hci]; · iexact Hci
  isplitl [Hwt]; · iexact Hwt
  isplitl [HO]; · iexact HO
  iintro ⟨HO, HC, Hd, #Hrd⟩
  iapply (wp_sendSlot (acc P) K κ hb c r (s + 1) (by omega) X)
  isplitr; · iexact HR
  isplitl [Hs]; · iexact Hs
  isplitl [Hd]; · iexact Hd
  isplitl [HO]; · iexact HO
  isplitl [HtS]; · iexact HtS
  isplitr; · iexact RQ1
  isplitl [HtR]; · iexact HtR
  isplitr; · iexact Hrd
  iintro ⟨Hc, HO⟩
  iapply Hk
  isplitr [HO]
  · isplitl [P1]; · iexact P1
    isplitl [P2]; · iexact P2
    isplitl [P3]; · iexact P3
    isplitl [Q1]; · iexact Q1
    isplitl [Q2]; · iexact Q2
    isplitl [Q3]; · iexact Q3
    isplitr; · iexact RP3
    isplitr; · iexact RQ2
    isplitr; · iexact RQ3
    isplitl [HC]; · iexact HC
    isplitr; · iexact HH'
    isplitl [Hc]; · iexact Hc
    isplitr; · unfold deposit; rw [if_neg (Nat.succ_ne_zero s)]; iempintro
    iexact Hkept
  · iexact HO

end

end Cert.Proof

end
-- ==== Proof.Run.lean ====
/-
  The body, stage by stage: the products, a ring's first and last step, a step of the four rings, the fourteen steps,
  the handshake, and all of it.
-/
module

public import proofs.«01_k».proof.Proof.Ring

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The staged arrays and the products -/

abbrev xM : Memref sig .tc .vmem S4096x256 .bf16 := Memref.whole cc0_stg0_0
abbrev wM : Memref sig .tc .vmem S256x8192 .bf16 := Memref.whole cc0_stg1_0
abbrev oM : Memref sig .tc .vmem S256x8192 .f32 := Memref.whole cc0_stg2_0

/-- The products of step `s` on device `d`, of the staged blocks. -/
def partsOf (xs : (cc0_stg0_0 : Ref sig .tc).ty.Contents (Elt F)) (ws : (cc0_stg1_0 : Ref sig .tc).ty.Contents (Elt F))
    (d : Dev nD) (s : ℕ) : Parts F :=
  (prod (xM.view.readAt (Elt F) (rowsCw d s).toLoadRect xs) (wM.view.readAt (Elt F) colsLo.toLoadRect ws),
   prod (xM.view.readAt (Elt F) (rowsCcw d s).toLoadRect xs) (wM.view.readAt (Elt F) colsHi.toLoadRect ws))

section
variable (c : Dev nD)

/-- The staged blocks, held. -/
def staged (xs : (cc0_stg0_0 : Ref sig .tc).ty.Contents (Elt F)) (ws : (cc0_stg1_0 : Ref sig .tc).ty.Contents (Elt F)) : sProp 𝕄 :=
  iprop((((c : Thread nD τ).loc cc0_stg0_0) ↦{fullShare} xs) ∗ (((c : Thread nD τ).loc cc0_stg1_0) ↦{fullShare} ws))

theorem wp_partials (xs : (cc0_stg0_0 : Ref sig .tc).ty.Contents (Elt F)) (ws : (cc0_stg1_0 : Ref sig .tc).ty.Contents (Elt F))
    (s : ℕ) (Q : Parts F → sProp 𝕄) :
    iprop(staged c xs ws ∗ (staged c xs ws -∗ Q (partsOf xs ws c s))) ⊢ WP c (partials xM wM c s) Q := by
  unfold partials staged partsOf
  simp only [Prog.lift, Prog.bind_op, Prog.bind_ret, Prog.pure_eq_ret]
  iintro ⟨⟨Hx, Hw⟩, Hk⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  rw [wp_ret]; imodintro
  iapply Hk
  isplitl [Hx]; · iexact Hx
  iexact Hw

end

/-- One assertion for each ring. -/
def four (Φ : Fin 4 → sProp 𝕄) : sProp 𝕄 := iprop(Φ 0 ∗ Φ 1 ∗ Φ 2 ∗ Φ 3)

section
variable (P : Dev nD → ℕ → Parts F) (K : GSem nD τ sig → ℕ) (κ : SlotKey → ℕ)
variable (hb : bM.IsWhole) (c : Dev nD) (r : Fin 4)

/-! ## A ring's first step -/

/-- A ring's positions at the start. -/
def ring0 : sProp 𝕄 :=
  iprop(atPos ER (recvCell c r 1) 0 ∅ 0 ∗ atPos ER (recvCell c r 2) 0 ∅ 0 ∗ atPos ER (recvCell c r 3) 0 ∅ 0
    ∗ atPos ER (sendCell c r 0) 0 ∅ 0 ∗ atPos ER (sendCell c r 1) 0 ∅ 0 ∗ atPos ER (sendCell c r 2) 0 ∅ 0
    ∗ atPos ER (credCell c r) 0 ∅ 0)

theorem wp_first (X : CellTallies nD τ sig ℕ) (Q : PUnit → sProp 𝕄) :
    iprop(recs (acc P) K κ ∗ ring0 c r ∗ slotAny c (slotIx r 0) ∗ opened c r ∗ copyToks c r 0 ∗ owing c (X + due c r 0)
        ∗ ((ringSt c r 0 ∗ owing c X) -∗ Q ⟨⟩))
      ⊢ WP c (first bM hb cc0_scratch1 cc0_scratch2 c r (P c 0)) Q := by
  unfold first
  simp only [WP, wp_bind]
  unfold ring0 opened copyToks due
  rw [if_neg (show ¬ (1 ≤ 0 ∧ 0 ≤ 13) by omega), add_zero]
  iintro ⟨#HR, ⟨P0, P1, P2, Q0, Q1, Q2, HC⟩, Hs, ⟨Hd, Hcl⟩, ⟨HtS, HtR⟩, HO, Hk⟩
  iapply (wp_loadAny c (slotIx r 0))
  isplitl [Hs]; · iexact Hs
  iintro %v Hs
  iapply (wp_storeSlot hb c (slotIx r 0) (acc P c r 0) _ (payFirst_eq P c r))
  isplitl [Hs]; · iexact Hs
  iintro Hs
  iapply (wp_sendSlot (acc P) K κ hb c r 0 (by omega) X)
  isplitr; · iexact HR
  isplitl [Hs]; · iexact Hs
  isplitl [Hd]; · iexact Hd
  isplitl [HO]; · iexact HO
  isplitl [HtS]; · iexact HtS
  isplitr; · iapply (recs_reached (acc P) K κ (send_mem c r 0)); iexact HR
  isplitl [HtR]; · iexact HtR
  isplitr; · iapply (recs_reached (acc P) K κ (recv_mem (tgt c r) r 1)); iexact HR
  iintro ⟨Hc, HO⟩
  iapply Hk
  isplitr [HO]
  · unfold ringSt
    isplitl [P0]; · iexact P0
    isplitl [P1]; · iexact P1
    isplitl [P2]; · iexact P2
    isplitl [Q0]; · iexact Q0
    isplitl [Q1]; · iexact Q1
    isplitl [Q2]; · iexact Q2
    isplitr; · iapply (recs_reached (acc P) K κ (recv_mem c r 3)); iexact HR
    isplitr; · iapply (recs_reached (acc P) K κ (send_mem c r 1)); iexact HR
    isplitr; · iapply (recs_reached (acc P) K κ (send_mem c r 2)); iexact HR
    isplitl [HC]; · iapply (credPos_zero (F := F) c r); iexact HC
    isplitr; · rw [show min 0 13 = 0 from rfl, heard_zero]; iempintro
    isplitl [Hc]; · iexact Hc
    isplitl [Hcl]; · unfold deposit; rw [if_pos rfl]; iexact Hcl
    unfold kept; rw [if_neg (show ¬ (0 = 14) by omega)]; iempintro
  · iexact HO

/-! ## A ring's last step -/

/-- What a ring leaves: its three slots, its seven semaphores at zero. -/
def ringEnd : sProp 𝕄 :=
  iprop((slotAny c (slotIx r 0) ∗ slotAny c (slotIx r 1) ∗ slotAny c (slotIx r 2))
    ∗ semVal (recvCell c r 1) 0 ∗ semVal (recvCell c r 2) 0 ∗ semVal (recvCell c r 3) 0
    ∗ semVal (sendCell c r 0) 0 ∗ semVal (sendCell c r 1) 0 ∗ semVal (sendCell c r 2) 0 ∗ semVal (credCell c r) 0)

theorem close_recv (u : ℕ) :
    iprop(recs (acc P) K κ ∗ atPos ER (recvCell c r u) 5 ∅ 0) ⊢ |={Set.univ}=> semVal (recvCell c r u) 0 := by
  iintro ⟨#HR, Ha⟩
  iapply (Rounds.cell_close ER (Rd (acc P)) (Set.mem_univ (K (recvCell c r u))) (fun h => h) (R := 5)
    (fun R h => duties_recv_later (acc P) c r u R h))
  isplitr; · iapply (recs_inv (acc P) K κ (recv_mem c r u)); iexact HR
  iexact Ha

theorem close_send (u : ℕ) :
    iprop(recs (acc P) K κ ∗ atPos ER (sendCell c r u) 5 ∅ 0) ⊢ |={Set.univ}=> semVal (sendCell c r u) 0 := by
  iintro ⟨#HR, Ha⟩
  iapply (Rounds.cell_close ER (Rd (acc P)) (Set.mem_univ (K (sendCell c r u))) (fun h => h) (R := 5)
    (fun R h => duties_send_later (acc P) c r u R h))
  isplitr; · iapply (recs_inv (acc P) K κ (send_mem c r u)); iexact HR
  iexact Ha

theorem close_cred :
    iprop(recs (acc P) K κ ∗ atPos ER (credCell c r) 1 ∅ 0) ⊢ |={Set.univ}=> semVal (credCell c r) 0 := by
  iintro ⟨#HR, Ha⟩
  iapply (Rounds.cell_close ER (Rd (acc P)) (Set.mem_univ (K (credCell c r))) (fun h => h) (R := 1)
    (fun R h => duties_cred_later (acc P) c r R h))
  isplitr; · iapply (recs_inv (acc P) K κ (cred_mem c r)); iexact HR
  iexact Ha

theorem close_bar :
    iprop(recs (acc P) K κ ∗ atPos ER (barCell c) 1 ∅ 0) ⊢ |={Set.univ}=> semVal (barCell c) 0 := by
  iintro ⟨#HR, Ha⟩
  iapply (Rounds.cell_close ER (Rd (acc P)) (Set.mem_univ (K (barCell c))) (fun h => h) (R := 1)
    (fun R h => duties_bar_later (acc P) c R h))
  isplitr; · iapply (recs_inv (acc P) K κ (bar_mem c)); iexact HR
  iexact Ha

/-- The seven semaphores of a ring whose rounds are over, closed. -/
theorem close_ring :
    iprop(recs (acc P) K κ ∗ atPos ER (recvCell c r 1) 5 ∅ 0 ∗ atPos ER (recvCell c r 2) 5 ∅ 0 ∗ atPos ER (recvCell c r 3) 5 ∅ 0
        ∗ atPos ER (sendCell c r 0) 5 ∅ 0 ∗ atPos ER (sendCell c r 1) 5 ∅ 0 ∗ atPos ER (sendCell c r 2) 5 ∅ 0
        ∗ atPos ER (credCell c r) 1 ∅ 0)
      ⊢ |={Set.univ}=> iprop(semVal (recvCell c r 1) 0 ∗ semVal (recvCell c r 2) 0 ∗ semVal (recvCell c r 3) 0
        ∗ semVal (sendCell c r 0) 0 ∗ semVal (sendCell c r 1) 0 ∗ semVal (sendCell c r 2) 0 ∗ semVal (credCell c r) 0) := by
  iintro ⟨#HR, P1, P2, P3, Q0, Q1, Q2, HC⟩
  imod (close_recv P K κ c r 1) $$ [P1] with P1
  · isplitr; · iexact HR
    iexact P1
  imod (close_recv P K κ c r 2) $$ [P2] with P2
  · isplitr; · iexact HR
    iexact P2
  imod (close_recv P K κ c r 3) $$ [P3] with P3
  · isplitr; · iexact HR
    iexact P3
  imod (close_send P K κ c r 0) $$ [Q0] with Q0
  · isplitr; · iexact HR
    iexact Q0
  imod (close_send P K κ c r 1) $$ [Q1] with Q1
  · isplitr; · iexact HR
    iexact Q1
  imod (close_send P K κ c r 2) $$ [Q2] with Q2
  · isplitr; · iexact HR
    iexact Q2
  imod (close_cred P K κ c r) $$ [HC] with HC
  · isplitr; · iexact HR
    iexact HC
  imodintro
  isplitl [P1]; · iexact P1
  isplitl [P2]; · iexact P2
  isplitl [P3]; · iexact P3
  isplitl [Q0]; · iexact Q0
  isplitl [Q1]; · iexact Q1
  isplitl [Q2]; · iexact Q2
  iexact HC

theorem kept_end : kept (F := F) c r 14 = slotAny c (slotIx r 1) := by
  unfold kept; exact if_pos rfl

/-- The result's staging buffer, held. -/
abbrev outPts (g : (cc0_stg2_0 : Ref sig .tc).ty.Contents (Elt F)) : sProp 𝕄 := ((c : Thread nD τ).loc cc0_stg2_0) ↦{fullShare} g

theorem wp_last (g : (cc0_stg2_0 : Ref sig .tc).ty.Contents (Elt F)) (Q : PUnit → sProp 𝕄) :
    iprop(recs (acc P) K κ ∗ ringSt c r 14 ∗ cred (tallyAt (recvCell c r 15) 14 N) ∗ owing c 0 ∗ outPts c g
        ∗ ((ringEnd c r ∗ owing c 0 ∗ outPts c ((oM.access (outRect r)).write (Elt F) g (fin P c r) Finset.univ)) -∗ Q ⟨⟩))
      ⊢ WP c (last oM bM hb cc0_scratch1 cc0_scratch2 r (P c 15)) Q := by
  unfold last
  simp only [WP, wp_bind]
  unfold ringSt
  iintro ⟨#HR, ⟨P0, P1, P2, Q0, Q1, Q2, -, -, -, HC, -, Hc, -, Hkept⟩, HcR, HO, Ho, Hk⟩
  iapply (wp_waitSent (acc P) K κ hb c r 14 (by omega) 0 (above_zero 0))
  isplitr; · iexact HR
  isplitl [Hc]; · iexact Hc
  isplitl [HO]; · iexact HO
  isplitl [Q0]; · iexact Q0
  iintro ⟨HO, Q3, -, Hs2⟩
  iapply (wp_waitLanded (acc P) K κ hb c r 14 (by omega) 0 (above_zero _))
  isplitr; · iexact HR
  isplitl [HcR]; · iexact HcR
  isplitl [HO]; · iexact HO
  isplitl [P0]; · iexact P0
  iintro ⟨HO, P3, -, Hs⟩
  iapply (wp_loadSlot c (slotIx r 15) (acc P (src c r) r 14))
  isplitl [Hs]; · iexact Hs
  iintro %v ⟨%hv, Hs⟩
  iapply (wp_load 𝒱₀ (c : Thread nD τ) none Set.univ (m := oM) (Finset.subset_univ _)) $$ Ho; iintro Ho
  rw [wp_ret]; imodintro
  iapply (wp_store 𝒱₀ (c : Thread nD τ) none Set.univ (m := oM) (r := outRect r) (Mk := Finset.univ) (Finset.subset_univ _)) $$ Ho
  iintro Ho
  rw [wp_ret, addIn_eq P c r v hv]
  imod (close_ring P K κ c r) $$ [P1 P2 P3 Q1 Q2 Q3 HC] with Hz
  · isplitr; · iexact HR
    isplitl [P1]; · rw [show recvCell c r 1 = recvCell c r (14 + 1 + 1) from rfl]; iexact P1
    isplitl [P2]; · rw [show recvCell c r 2 = recvCell c r (14 + 1 + 1 + 1) from rfl]; iexact P2
    isplitl [P3]; · rw [show recvCell c r 3 = recvCell c r (14 + 1 + 1 + 1 + 1) from rfl]; iexact P3
    isplitl [Q1]; · rw [show sendCell c r 0 = sendCell c r (14 + 1) from rfl]; iexact Q1
    isplitl [Q2]; · rw [show sendCell c r 1 = sendCell c r (14 + 1 + 1) from rfl]; iexact Q2
    isplitl [Q3]; · rw [show sendCell c r 2 = sendCell c r (14 + 1 + 1 + 1) from rfl]; iexact Q3
    rw [← credPos_end]; iexact HC
  imodintro
  iapply Hk
  isplitr [HO Ho]
  · unfold ringEnd
    isplitr [Hz]
    · isplitl [Hs]
      · iapply (slotAt_any (F := F) c (slotIx r 0) (acc P (src c r) r 14)); iexact Hs
      isplitl [Hkept]
      · ihave Hkept := (Entails.of_eq (kept_end (F := F) c r)) $$ Hkept
        iexact Hkept
      iexact Hs2
    iexact Hz
  isplitl [HO]; · iexact HO
  iexact Ho

end

end Cert.Proof

end
-- ==== Proof.Body.lean ====
/-
  The body, whole: the handshake, the fourteen steps of the four rings, the end, and the rule of all of it.
-/
module

public import proofs.«01_k».proof.Proof.Run

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section
variable (xs : Dev nD → (cc0_stg0_0 : Ref sig .tc).ty.Contents (Elt F)) (ws : Dev nD → (cc0_stg1_0 : Ref sig .tc).ty.Contents (Elt F))
variable (K : GSem nD τ sig → ℕ) (κ : SlotKey → ℕ) (hb : bM.IsWhole) (c : Dev nD)

/-- The products of every step on every device, of the blocks staged there. -/
abbrev PP : Dev nD → ℕ → Parts F := fun d s => partsOf (xs d) (ws d) d s

/-! ## The handshake -/

theorem tgt_tgt (c : Dev nD) : tgt (tgt c 1) 0 = c ∧ tgt (tgt c 1) 2 = c ∧ tgt (tgt c 0) 1 = c ∧ tgt (tgt c 0) 3 = c := by
  revert c; decide

/-- A device's own slots 1 and 2 of ring `r`, whatever they hold. -/
def free (r : Fin 4) : sProp 𝕄 := iprop(slotAny c (slotIx r 1) ∗ slotAny c (slotIx r 2))

theorem give_bar1 (V : Dev nD → Fin 4 → ℕ → FVec F S256x2048 .bf16) :
    (Rd V).payload (barCell (tgt c 1)) 0 1 = iprop(free (F := F) c 0 ∗ free c 2) := by
  rw [payload_bar1]; unfold opened free; rw [(tgt_tgt c).1, (tgt_tgt c).2.1]
theorem give_bar0 (V : Dev nD → Fin 4 → ℕ → FVec F S256x2048 .bf16) :
    (Rd V).payload (barCell (tgt c 0)) 0 0 = iprop(free (F := F) c 1 ∗ free c 3) := by
  rw [payload_bar0]; unfold opened free; rw [(tgt_tgt c).2.2.1, (tgt_tgt c).2.2.2]

theorem bar_rest (V : Dev nD → Fin 4 → ℕ → FVec F S256x2048 .bf16) :
    (bigSep ((Rd V).duties (barCell c) 0 \ ∅) (fun k => (Rd V).payload (barCell c) 0 k) : sProp 𝕄)
      ⊢ iprop((opened c 1 ∗ opened c 3) ∗ (opened c 0 ∗ opened c 2)) := by
  rw [Finset.sdiff_empty, duties_bar, bigSep_insert (by decide), bigSep_singleton, payload_bar0, payload_bar1]
  exact Entails.refl _

/-- What a device has for the handshake. -/
def barRes : sProp 𝕄 :=
  iprop(atPos ER (barCell c) 0 ∅ 0 ∗ cred (tallyAt (barCell c) 0 2) ∗ dutyTok ER (barCell (tgt c 1)) 0 1 ∗ dutyTok ER (barCell (tgt c 0)) 0 0)

/-- Both neighbours told, both heard from. -/
def handshake (d : Dev nD) : Prog (TpuEff nD τ sig (Elt F) Λ₀ .tc) PUnit := do
  semSignalWord (tgt d 1) barSems.sem 1#32
  semSignalWord (tgt d 0) barSems.sem 1#32
  semWaitWord barSems.sem 2#32

theorem wp_handshake (V : Dev nD → Fin 4 → ℕ → FVec F S256x2048 .bf16) (Q : PUnit → sProp 𝕄) :
    iprop(recs V K κ ∗ barRes c ∗ four (free c) ∗ owing c (O₀ c)
        ∗ ((semVal (barCell c) 0 ∗ four (opened c) ∗ owing c (duesFrom c 15 0)) -∗ Q ⟨⟩))
      ⊢ WP c (handshake c) Q := by
  unfold handshake
  simp only [WP, wp_bind]
  unfold barRes four owing semSignalWord semWaitWord O₀
  iintro ⟨#HR, ⟨Ha, Hc, Ht1, Ht0⟩, ⟨F0, F1, F2, F3⟩, ⟨%W, HO⟩, Hk⟩
  iapply (Rounds.wp_signal 𝒱₀ ER (Rd V) (c : Thread nD τ) none (dst := (tgt c 1 : Thread nD τ)) (κ := K (barCell (tgt c 1)))
      (r := 0) (d := 1) (by rw [duties_bar]; decide) ((amount_bar V (tgt c 1) 0 1).trans (by decide)) 0
      (duesFrom c 15 0 + tallyAt (barCell (tgt c 0)) 0 1) rfl) $$ [HO Ht1 F0 F2]
  · isplitr; · iapply (recs_inv V K κ (bar_mem (tgt c 1))); iexact HR
    isplitl [HO]; · iexact HO
    isplitl [Ht1]; · iexact Ht1
    isplitl [F0 F2]
    · iapply (Entails.of_eq (give_bar1 c V).symm)
      isplitl [F0]; · iexact F0
      iexact F2
    iapply (recs_reached V K κ (bar_mem (tgt c 1))); iexact HR
  iintro HO
  rw [wp_ret]; imodintro
  iapply (Rounds.wp_signal 𝒱₀ ER (Rd V) (c : Thread nD τ) none (dst := (tgt c 0 : Thread nD τ)) (κ := K (barCell (tgt c 0)))
      (r := 0) (d := 0) (by rw [duties_bar]; decide) ((amount_bar V (tgt c 0) 0 0).trans (by decide)) 0
      (duesFrom c 15 0) rfl) $$ [HO Ht0 F1 F3]
  · isplitr; · iapply (recs_inv V K κ (bar_mem (tgt c 0))); iexact HR
    isplitl [HO]; · iexact HO
    isplitl [Ht0]; · iexact Ht0
    isplitl [F1 F3]
    · iapply (Entails.of_eq (give_bar0 c V).symm)
      isplitl [F1]; · iexact F1
      iexact F3
    iapply (recs_reached V K κ (bar_mem (tgt c 0))); iexact HR
  iintro HO
  rw [wp_ret]; imodintro
  iapply (Rounds.wp_wait_rest_token 𝒱₀ ER (Rd V) (c : Thread nD τ) none (κ := K (barCell c)) (k' := 2) (sm := .reg barSems.sem)
    (wpE_semWait_eq 𝒱₀ (c : Thread nD τ) none Set.univ) (Set.mem_univ _) 0 (O := duesFrom c 15 0) (W := W) (R := 0) (m := 0) (T := ∅)
    (by rw [expect_bar])) $$ [Hc HO Ha]
  · isplitr; · iapply (recs_inv V K κ (bar_mem c)); iexact HR
    isplitl [Hc]; · iexact Hc
    isplitl [HO]; · iexact HO
    isplitr
    · iapply (recs_mayWait V K κ (c := c) (sm := .reg barSems.sem) (i := 0) (l := 1) (by omega)
        (le_of_eq (lv_bar c 0)) (above_duesFrom c 15 0 (by omega)))
      iexact HR
    iexact Ha
  iintro ⟨HO, Ha, -, Hp⟩
  ihave Hp := (bar_rest (F := F) c V) $$ Hp
  icases Hp with ⟨⟨O1, O3⟩, O0, O2⟩
  rw [wp_ret]
  imod (Rounds.cell_close ER (Rd V) (Set.mem_univ (K (barCell c))) (fun h => h) (R := 1)
    (fun R h => duties_bar_later V c R h)) $$ [Ha] with Hz
  · isplitr; · iapply (recs_inv V K κ (bar_mem c)); iexact HR
    iexact Ha
  imodintro
  iapply Hk
  isplitl [Hz]; · iexact Hz
  isplitr [HO]
  · isplitl [O0]; · iexact O0
    isplitl [O1]; · iexact O1
    isplitl [O2]; · iexact O2
    iexact O3
  iexists _; iexact HO

/-! ## The start -/

/-- What a device has for its start. -/
def startRes : sProp 𝕄 :=
  iprop(barRes c ∗ four (free c) ∗ four (fun r => slotAny c (slotIx r 0)) ∗ four (ring0 c) ∗ four (fun r => copyToks c r 0))

theorem start_eq (x : Memref sig .tc .vmem S4096x256 .bf16) (w : Memref sig .tc .vmem S256x8192 .bf16)
    (ss rs : DmaSems sig S12) (d : Dev nD) :
    start (F := F) x w bM hb ss rs d = (do
      handshake d
      let p : Parts F ← partials x w d 0
      first bM hb ss rs d 0 p
      first bM hb ss rs d 1 p
      first bM hb ss rs d 2 p
      first bM hb ss rs d 3 p
      partials x w d 1) := by
  unfold start handshake; simp only [bind_assoc]

theorem duesAt_assoc (X : CellTallies nD τ sig ℕ) (t : ℕ) :
    X + duesAt c t = X + due c 3 t + due c 2 t + due c 1 t + due c 0 t := by
  unfold duesAt; simp only [add_assoc]

theorem wp_start (Q : Parts F → sProp 𝕄) :
    iprop(recs (acc (PP xs ws)) K κ ∗ startRes c ∗ owing c (O₀ c) ∗ staged c (xs c) (ws c)
        ∗ ((semVal (barCell c) 0 ∗ four (fun r => ringSt c r 0) ∗ owing c (duesFrom c 14 1) ∗ staged c (xs c) (ws c)) -∗ Q (PP xs ws c 1)))
      ⊢ WP c (start xM wM bM hb cc0_scratch1 cc0_scratch2 c) Q := by
  rw [start_eq]
  simp only [WP, wp_bind]
  unfold startRes
  iintro ⟨#HR, ⟨HB, HF, HS, HP, HT⟩, HO, Hst, Hk⟩
  iapply (wp_handshake K κ c (acc (PP xs ws)))
  isplitr; · iexact HR
  isplitl [HB]; · iexact HB
  isplitl [HF]; · iexact HF
  isplitl [HO]; · iexact HO
  iintro ⟨Hz, Hop, HO⟩
  ihave HO := (Entails.of_eq (congrArg (owing (F := F) c)
    (show duesFrom c 15 0 = _ from duesAt_assoc c (duesFrom c 14 1) 0))) $$ HO
  iapply (wp_partials c (xs c) (ws c) 0)
  isplitl [Hst]; · iexact Hst
  iintro Hst
  unfold four
  icases HS with ⟨S0, S1, S2, S3⟩
  icases HP with ⟨P0, P1, P2, P3⟩
  icases HT with ⟨T0, T1, T2, T3⟩
  icases Hop with ⟨U0, U1, U2, U3⟩
  iapply (wp_first (PP xs ws) K κ hb c 0)
  isplitr; · iexact HR
  isplitl [P0]; · iexact P0
  isplitl [S0]; · iexact S0
  isplitl [U0]; · iexact U0
  isplitl [T0]; · iexact T0
  isplitl [HO]; · iexact HO
  iintro ⟨R0, HO⟩
  iapply (wp_first (PP xs ws) K κ hb c 1)
  isplitr; · iexact HR
  isplitl [P1]; · iexact P1
  isplitl [S1]; · iexact S1
  isplitl [U1]; · iexact U1
  isplitl [T1]; · iexact T1
  isplitl [HO]; · iexact HO
  iintro ⟨R1, HO⟩
  iapply (wp_first (PP xs ws) K κ hb c 2)
  isplitr; · iexact HR
  isplitl [P2]; · iexact P2
  isplitl [S2]; · iexact S2
  isplitl [U2]; · iexact U2
  isplitl [T2]; · iexact T2
  isplitl [HO]; · iexact HO
  iintro ⟨R2, HO⟩
  iapply (wp_first (PP xs ws) K κ hb c 3)
  isplitr; · iexact HR
  isplitl [P3]; · iexact P3
  isplitl [S3]; · iexact S3
  isplitl [U3]; · iexact U3
  isplitl [T3]; · iexact T3
  isplitl [HO]; · iexact HO
  iintro ⟨R3, HO⟩
  iapply (wp_partials c (xs c) (ws c) 1)
  isplitl [Hst]; · iexact Hst
  iintro Hst
  iapply Hk
  isplitl [Hz]; · iexact Hz
  isplitl [R0 R1 R2 R3]
  · isplitl [R0]; · iexact R0
    isplitl [R1]; · iexact R1
    isplitl [R2]; · iexact R2
    iexact R3
  isplitl [HO]; · iexact HO
  iexact Hst

/-! ## The steps -/

theorem wp_stepNext (s : ℕ) (hs : s ≤ 13) (X : CellTallies nD τ sig ℕ) (hX : Above (s + 2) X) (Q : Parts F → sProp 𝕄) :
    iprop(recs (acc (PP xs ws)) K κ ∗ four (fun r => ringSt c r s) ∗ four (fun r => stepRes c r s)
        ∗ owing c (X + duesAt c (s + 1)) ∗ staged c (xs c) (ws c)
        ∗ ((four (fun r => ringSt c r (s + 1)) ∗ owing c X ∗ staged c (xs c) (ws c)) -∗ Q (PP xs ws c (s + 2))))
      ⊢ WP c (stepNext xM wM bM hb cc0_scratch1 cc0_scratch2 credSems c s (PP xs ws c (s + 1))) Q := by
  have h3 : Above (s + 2) (X + due c 3 (s + 1)) := hX.add (above_due c 3 (s + 1) (by omega))
  have h2 : Above (s + 2) (X + due c 3 (s + 1) + due c 2 (s + 1)) := h3.add (above_due c 2 (s + 1) (by omega))
  have h1 : Above (s + 2) (X + due c 3 (s + 1) + due c 2 (s + 1) + due c 1 (s + 1)) := h2.add (above_due c 1 (s + 1) (by omega))
  unfold stepNext
  simp only [WP, wp_bind]
  unfold four
  iintro ⟨#HR, ⟨P0, P1, P2, P3⟩, ⟨S0, S1, S2, S3⟩, HO, Hst, Hk⟩
  ihave HO := (Entails.of_eq (congrArg (owing (F := F) c) (duesAt_assoc c X (s + 1)))) $$ HO
  iapply (wp_next (PP xs ws) K κ hb c 0 s hs _ h1)
  isplitr; · iexact HR
  isplitl [P0]; · iexact P0
  isplitl [S0]; · iexact S0
  isplitl [HO]; · iexact HO
  iintro ⟨P0, HO⟩
  iapply (wp_next (PP xs ws) K κ hb c 1 s hs _ h2)
  isplitr; · iexact HR
  isplitl [P1]; · iexact P1
  isplitl [S1]; · iexact S1
  isplitl [HO]; · iexact HO
  iintro ⟨P1, HO⟩
  iapply (wp_next (PP xs ws) K κ hb c 2 s hs _ h3)
  isplitr; · iexact HR
  isplitl [P2]; · iexact P2
  isplitl [S2]; · iexact S2
  isplitl [HO]; · iexact HO
  iintro ⟨P2, HO⟩
  iapply (wp_next (PP xs ws) K κ hb c 3 s hs _ hX)
  isplitr; · iexact HR
  isplitl [P3]; · iexact P3
  isplitl [S3]; · iexact S3
  isplitl [HO]; · iexact HO
  iintro ⟨P3, HO⟩
  iapply (wp_partials c (xs c) (ws c) (s + 2))
  isplitl [Hst]; · iexact Hst
  iintro Hst
  iapply Hk
  isplitl [P0 P1 P2 P3]
  · isplitl [P0]; · iexact P0
    isplitl [P1]; · iexact P1
    isplitl [P2]; · iexact P2
    iexact P3
  isplitl [HO]; · iexact HO
  iexact Hst

/-- What `n` steps from step `s + 1` on need. -/
def stepsRes : ℕ → ℕ → sProp 𝕄
  | 0, _ => iprop(emp)
  | n + 1, s => iprop(four (fun r => stepRes c r s) ∗ stepsRes n (s + 1))

theorem wp_steps (n : ℕ) : ∀ (s : ℕ) (_ : s + n = 14) (Q : Parts F → sProp 𝕄),
    iprop(recs (acc (PP xs ws)) K κ ∗ four (fun r => ringSt c r s) ∗ stepsRes c n s
        ∗ owing c (duesFrom c n (s + 1)) ∗ staged c (xs c) (ws c)
        ∗ ((four (fun r => ringSt c r 14) ∗ owing c 0 ∗ staged c (xs c) (ws c)) -∗ Q (PP xs ws c 15)))
      ⊢ WP c (steps xM wM bM hb cc0_scratch1 cc0_scratch2 credSems c n s (PP xs ws c (s + 1))) Q := by
  induction n with
  | zero =>
    intro s hs Q
    obtain rfl : s = 14 := hs
    unfold stepsRes steps
    iintro ⟨-, HP, -, HO, Hst, Hk⟩
    rw [WP, Prog.pure_eq_ret, wp_ret]
    imodintro
    iapply Hk
    isplitl [HP]; · iexact HP
    isplitl [HO]; · iexact HO
    iexact Hst
  | succ n ih =>
    intro s hs Q
    unfold stepsRes steps duesFrom
    simp only [WP, wp_bind]
    iintro ⟨#HR, HP, ⟨HS, HSS⟩, HO, Hst, Hk⟩
    iapply (wp_stepNext xs ws K κ hb c s (by omega) (duesFrom c n (s + 1 + 1))
      ((above_duesFrom c n (s + 1 + 1) (by omega)).mono (by omega)))
    isplitr; · iexact HR
    isplitl [HP]; · iexact HP
    isplitl [HS]; · iexact HS
    isplitl [HO]; · iexact HO
    isplitl [Hst]; · iexact Hst
    iintro ⟨HP, HO, Hst⟩
    iapply (ih (s + 1) (by omega) Q)
    isplitr; · iexact HR
    isplitl [HP]; · iexact HP
    isplitl [HSS]; · iexact HSS
    isplitl [HO]; · iexact HO
    isplitl [Hst]; · iexact Hst
    iexact Hk

/-! ## The end -/

/-- The result's staging buffer after the four stores over `g`. -/
def outOver (p : Dev nD → ℕ → Parts F) (g : (cc0_stg2_0 : Ref sig .tc).ty.Contents (Elt F)) : (cc0_stg2_0 : Ref sig .tc).ty.Contents (Elt F) :=
  (oM.access (outRect 3)).write (Elt F)
    ((oM.access (outRect 2)).write (Elt F)
      ((oM.access (outRect 1)).write (Elt F)
        ((oM.access (outRect 0)).write (Elt F) g (fin p c 0) Finset.univ) (fin p c 1) Finset.univ) (fin p c 2) Finset.univ)
    (fin p c 3) Finset.univ

theorem wp_finish (g : (cc0_stg2_0 : Ref sig .tc).ty.Contents (Elt F)) (Q : PUnit → sProp 𝕄) :
    iprop(recs (acc (PP xs ws)) K κ ∗ four (fun r => ringSt c r 14) ∗ four (fun r => cred (tallyAt (recvCell c r 15) 14 N))
        ∗ owing c 0 ∗ outPts c g
        ∗ ((four (ringEnd c) ∗ owing c 0 ∗ outPts c (outOver c (PP xs ws) g)) -∗ Q ⟨⟩))
      ⊢ WP c (finish oM bM hb cc0_scratch1 cc0_scratch2 (PP xs ws c 15)) Q := by
  unfold finish
  simp only [WP, wp_bind]
  unfold four outOver
  iintro ⟨#HR, ⟨P0, P1, P2, P3⟩, ⟨C0, C1, C2, C3⟩, HO, Ho, Hk⟩
  iapply (wp_last (PP xs ws) K κ hb c 0)
  isplitr; · iexact HR
  isplitl [P0]; · iexact P0
  isplitl [C0]; · iexact C0
  isplitl [HO]; · iexact HO
  isplitl [Ho]; · iexact Ho
  iintro ⟨E0, HO, Ho⟩
  iapply (wp_last (PP xs ws) K κ hb c 1)
  isplitr; · iexact HR
  isplitl [P1]; · iexact P1
  isplitl [C1]; · iexact C1
  isplitl [HO]; · iexact HO
  isplitl [Ho]; · iexact Ho
  iintro ⟨E1, HO, Ho⟩
  iapply (wp_last (PP xs ws) K κ hb c 2)
  isplitr; · iexact HR
  isplitl [P2]; · iexact P2
  isplitl [C2]; · iexact C2
  isplitl [HO]; · iexact HO
  isplitl [Ho]; · iexact Ho
  iintro ⟨E2, HO, Ho⟩
  iapply (wp_last (PP xs ws) K κ hb c 3)
  isplitr; · iexact HR
  isplitl [P3]; · iexact P3
  isplitl [C3]; · iexact C3
  isplitl [HO]; · iexact HO
  isplitl [Ho]; · iexact Ho
  iintro ⟨E3, HO, Ho⟩
  iapply Hk
  isplitl [E0 E1 E2 E3]
  · isplitl [E0]; · iexact E0
    isplitl [E1]; · iexact E1
    isplitl [E2]; · iexact E2
    iexact E3
  isplitl [HO]; · iexact HO
  iexact Ho

/-! ## All of it -/

theorem wp_loopBody (g : (cc0_stg2_0 : Ref sig .tc).ty.Contents (Elt F)) (Q : PUnit → sProp 𝕄) :
    iprop(recs (acc (PP xs ws)) K κ ∗ startRes c ∗ stepsRes c 14 0 ∗ four (fun r => cred (tallyAt (recvCell c r 15) 14 N))
        ∗ owing c (O₀ c) ∗ staged c (xs c) (ws c) ∗ outPts c g
        ∗ ((semVal (barCell c) 0 ∗ four (ringEnd c) ∗ owing c 0 ∗ staged c (xs c) (ws c) ∗ outPts c (outOver c (PP xs ws) g)) -∗ Q ⟨⟩))
      ⊢ WP c (loopBody xM wM oM bM hb cc0_scratch1 cc0_scratch2 credSems) Q := by
  unfold loopBody
  simp only [WP, Prog.lift, Prog.bind_op, Prog.bind_ret, wp_deviceId, wp_bind]
  iintro ⟨#HR, Hs, HSS, HC, HO, Hst, Ho, Hk⟩
  iapply (wp_start xs ws K κ hb c)
  isplitr; · iexact HR
  isplitl [Hs]; · iexact Hs
  isplitl [HO]; · iexact HO
  isplitl [Hst]; · iexact Hst
  iintro ⟨Hz, HP, HO, Hst⟩
  iapply (wp_steps xs ws K κ hb c 14 0 rfl)
  isplitr; · iexact HR
  isplitl [HP]; · iexact HP
  isplitl [HSS]; · iexact HSS
  isplitl [HO]; · iexact HO
  isplitl [Hst]; · iexact Hst
  iintro ⟨HP, HO, Hst⟩
  iapply (wp_finish xs ws K κ hb c g)
  isplitr; · iexact HR
  isplitl [HP]; · iexact HP
  isplitl [HC]; · iexact HC
  isplitl [HO]; · iexact HO
  isplitl [Ho]; · iexact Ho
  iintro ⟨HE, HO, Ho⟩
  iapply Hk
  isplitl [Hz]; · iexact Hz
  isplitl [HE]; · iexact HE
  isplitl [HO]; · iexact HO
  isplitl [Hst]; · iexact Hst
  iexact Ho

end

end Cert.Proof

end
-- ==== Proof.Deal.lean ====
/-
  What the launch deals each device: the communication buffer slot by slot, the credits, the tokens of the duties it
  pays, the two sides of the releases.
-/
module

public import proofs.«01_k».proof.Proof.Body
public import Idealize.SL.BI.BigOpNat

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Conjunctions over pairs, and over the rings -/

theorem conj_swap {I J : Type} [DecidableEq I] [DecidableEq J] (s : Finset I) (t : Finset J) (Φ : I → J → sProp 𝕄) :
    (bigSep s fun i => bigSep t fun j => Φ i j) = bigSep t fun j => bigSep s fun i => Φ i j := by
  induction s using Finset.induction_on with
  | empty => simp only [bigSep_empty]; exact (bigSep_emp_const t).symm
  | insert i s hi ih =>
    rw [bigSep_insert hi, ih]
    exact (bigSep_sep' t (Φ i) fun j => bigSep s fun i => Φ i j).symm.trans
      (bigSep_congr fun j _ => by rw [bigSep_insert hi]; rfl)

theorem conj_pairs {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rw [Finset.empty_product, bigSep_empty, bigSep_empty]
  | insert i s hi ih =>
    have hm : (insert i s) ×ˢ t = t.map ⟨Prod.mk i, Prod.mk_right_injective i⟩ ∪ s ×ˢ t := by
      ext ⟨a, b⟩; simp only [Finset.mem_product, Finset.mem_insert, Finset.mem_union, Finset.mem_map, Function.Embedding.coeFn_mk, Prod.mk.injEq]
      constructor
      · rintro ⟨rfl | h, hb⟩
        · exact Or.inl ⟨b, hb, rfl, rfl⟩
        · exact Or.inr ⟨h, hb⟩
      · rintro (⟨b', hb, rfl, rfl⟩ | ⟨h, hb⟩)
        · exact ⟨Or.inl rfl, hb⟩
        · exact ⟨Or.inr h, hb⟩
    have hd : Disjoint (t.map ⟨Prod.mk i, Prod.mk_right_injective i⟩) (s ×ˢ t) := Finset.disjoint_left.mpr fun x h1 h2 => by
      obtain ⟨b, -, rfl⟩ := Finset.mem_map.mp h1
      exact hi (Finset.mem_product.mp h2).1
    rw [hm, bigSep_union hd, bigSep_map, ih, bigSep_insert hi]; rfl

theorem four_eq (Φ : Fin 4 → sProp 𝕄) : bigSep Finset.univ Φ = four Φ :=
  bigSep_univ_eq_bigSepL [0, 1, 2, 3] (by decide) (by decide) Φ

theorem four_sep (Φ Ψ : Fin 4 → sProp 𝕄) : four (fun r => iprop(Φ r ∗ Ψ r)) = iprop(four Φ ∗ four Ψ) := by
  rw [← four_eq, ← four_eq, ← four_eq, bigSep_sep']

theorem four_mono {Φ Ψ : Fin 4 → sProp 𝕄} (h : ∀ r, Φ r ⊢ Ψ r) : four Φ ⊢ four Ψ := by
  rw [← four_eq, ← four_eq]; exact bigSep_mono fun r _ => h r

/-! ## The communication buffer, slot by slot -/

section
variable (c : Dev nD)

/-- The elements of slot `n`, in the buffer. -/
def slotSet (n : Fin 12) : Finset (cc0_scratch0 : Ref sig .tc).ty.Idx := (slotMem bM n).view.set

theorem slotSet_eq (n : Fin 12) : slotSet n = (slotRect n).set := (slot_set n).trans (View.set_slice_whole _ _)

theorem slots_disjoint (n n' : Fin 12) (h : n ≠ n') : Disjoint (slotSet n) (slotSet n') := by
  unfold slotSet
  rw [slot_set, slot_set]
  refine View.disjoint_slice_of_sep bM.view (slotRect n) (slotRect n') (0 : Fin 3) rfl rfl ?_
  have h' : n.val ≠ n'.val := fun e => h (Fin.ext e)
  show n.val + 1 ≤ n'.val ∨ n'.val + 1 ≤ n.val
  omega

theorem slots_cover : (Finset.univ : Finset (Fin 12)).biUnion slotSet = Finset.univ := by
  refine Finset.eq_univ_of_forall fun i => Finset.mem_biUnion.mpr ⟨⟨(i (0 : Fin 3)).val, (i (0 : Fin 3)).isLt⟩, Finset.mem_univ _, ?_⟩
  rw [slotSet_eq, Rect.mem_set_unit]
  intro a
  have h1 : (i (1 : Fin 3)).val < 256 := (i (1 : Fin 3)).isLt
  have h2 : (i (2 : Fin 3)).val < 2048 := (i (2 : Fin 3)).isLt
  fin_cases a
  · exact ⟨le_refl _, Nat.lt_succ_self _⟩
  · exact ⟨Nat.zero_le _, h1.trans_eq (Nat.zero_add _).symm⟩
  · exact ⟨Nat.zero_le _, h2.trans_eq (Nat.zero_add _).symm⟩

theorem slotAny_eq (n : Fin 12) :
    (slotAny c n : sProp 𝕄) = iprop(∃ f, ((c : Thread nD τ).loc cc0_scratch0) ↦[slotSet n]{fullShare} f) := rfl

/-- A buffer, cut into pieces that cover it: as its pieces at any contents, -/
theorem pieces_split {ℓ : Loc nD τ sig} (K : Fin 12 → Finset (Idx ℓ)) (hd : ∀ n n', n ≠ n' → Disjoint (K n) (K n'))
    (hc : Finset.univ.biUnion K = Finset.univ) (f : Buf (Elt F) ℓ) :
    (ℓ ↦{fullShare} f : sProp 𝕄) ⊢ bigSep Finset.univ fun n => iprop(∃ f, ℓ ↦[K n]{fullShare} f) := by
  have e : (ℓ ↦[Finset.univ.biUnion K]{fullShare} f : sProp 𝕄) = bigSep Finset.univ fun n => ℓ ↦[K n]{fullShare} f :=
    pointsTo_biUnion Finset.univ K fun n _ n' _ h => hd n n' h
  rw [hc] at e
  rw [e]
  exact bigSep_mono fun n _ => BIClass.exists_intro (Φ := fun f => (ℓ ↦[K n]{fullShare} f : sProp 𝕄)) f

/-- and back together. -/
theorem pieces_join {ℓ : Loc nD τ sig} (K : Fin 12 → Finset (Idx ℓ)) (hd : ∀ n n', n ≠ n' → Disjoint (K n) (K n'))
    (hc : Finset.univ.biUnion K = Finset.univ) [Nonempty (Buf (Elt F) ℓ)] :
    (bigSep Finset.univ fun n => iprop(∃ f, ℓ ↦[K n]{fullShare} f)) ⊢ (iprop(∃ f : Buf (Elt F) ℓ, ℓ ↦{fullShare} f) : sProp 𝕄) := by
  have e (fs : Fin 12 → Buf (Elt F) ℓ) : (bigSep Finset.univ fun n => ℓ ↦[K n]{fullShare} fs n : sProp 𝕄)
      ⊢ iprop(∃ g, ⌜∀ n ∈ Finset.univ, ∀ i ∈ K n, g i = fs n i⌝ ∗ ℓ ↦[Finset.univ.biUnion K]{fullShare} g) :=
    pointsTo_biUnion_join Finset.univ K fs (fs 0) fun n _ n' _ h => hd n n' h
  rw [hc] at e
  iintro H
  ihave H := (BI.bigSep_exists_pi (Finset.univ : Finset (Fin 12))
    (fun (n : Fin 12) (f : Buf (Elt F) ℓ) => (ℓ ↦[K n]{fullShare} f : sProp 𝕄))) $$ H
  icases H with ⟨%fs, H⟩
  ihave H := (e fs) $$ H
  icases H with ⟨%g, -, H⟩
  iexists g
  iexact H

/-- A device's three slots of ring `r`. -/
def three (r : Fin 4) : sProp 𝕄 := iprop(slotAny c (slotIx r 0) ∗ slotAny c (slotIx r 1) ∗ slotAny c (slotIx r 2))

/-- The slots, ring by ring. -/
def slotE : Fin 4 × Fin 3 ≃ Fin 12 := Equiv.ofBijective (fun x => slotIx x.1 x.2.val) (by decide)

theorem three_eq (Φ : Fin 12 → sProp 𝕄) :
    bigSep Finset.univ Φ = four fun r => iprop(Φ (slotIx r 0) ∗ Φ (slotIx r 1) ∗ Φ (slotIx r 2)) := by
  rw [← four_eq, bigSep_univ_equiv slotE, bigSep_univ_prod]
  exact bigSep_congr fun r _ => bigSep_univ_eq_bigSepL [0, 1, 2] (by decide) (by decide) _

theorem slots_split (f : Buf (Elt F) ((c : Thread nD τ).loc cc0_scratch0)) :
    (((c : Thread nD τ).loc cc0_scratch0) ↦{fullShare} f : sProp 𝕄) ⊢ four (three c) := by
  have e := pieces_split (F := F) (ℓ := (c : Thread nD τ).loc cc0_scratch0) slotSet slots_disjoint slots_cover f
  rw [three_eq] at e
  exact e

theorem slots_join :
    four (three c) ⊢ (iprop(∃ f : Buf (Elt F) ((c : Thread nD τ).loc cc0_scratch0), ((c : Thread nD τ).loc cc0_scratch0) ↦{fullShare} f) : sProp 𝕄) := by
  have : Nonempty (Buf (Elt F) ((c : Thread nD τ).loc cc0_scratch0)) := ⟨fun _ => FloatOps.ofBits .bf16 0⟩
  have e := pieces_join (F := F) (ℓ := (c : Thread nD τ).loc cc0_scratch0) slotSet slots_disjoint slots_cover
  rw [three_eq] at e
  exact e

/-! ## The credits -/

/-- The credit of the copy that arrives as `t`, and of the release heard then. -/
def credAt (r : Fin 4) (t : ℕ) : sProp 𝕄 :=
  iprop(cred (tallyAt (recvCell c r (t + 1)) t N) ∗ (if 1 ≤ t ∧ t ≤ 13 then cred (tallyAt (credCell c r) t 1) else iprop(emp)))

theorem cred_due (r : Fin 4) (t : ℕ) : (Pipeline.launchCred (fun d => due d r t) c : sProp 𝕄) ⊢ credAt c r t := by
  unfold due credAt
  rw [Pipeline.launchCred_add]
  refine BIClass.sep_mono (Pipeline.launchCred_tallyAt _ (fun d => tgt d r) (fun d => src d r) (fun d => tgt_src d r) (fun d => src_tgt d r) t N c) ?_
  by_cases h : 1 ≤ t ∧ t ≤ 13
  · simp only [if_pos h]
    exact Pipeline.launchCred_tallyAt _ (fun d => src d r) (fun d => tgt d r) (fun d => src_tgt d r) (fun d => tgt_src d r) t 1 c
  · simp only [if_neg h]
    exact Entails.of_eq (Pipeline.launchCred_zero c)

theorem cred_bar (r : Fin 4) : (Pipeline.launchCred (fun d => tallyAt (barCell (tgt d r)) 0 1) c : sProp 𝕄) ⊢ cred (tallyAt (barCell c) 0 1) :=
  Pipeline.launchCred_tallyAt _ (fun d => tgt d r) (fun d => src d r) (fun d => tgt_src d r) (fun d => src_tgt d r) 0 1 c

theorem cred_duesFrom : ∀ n t, (Pipeline.launchCred (fun d => duesFrom d n t) c : sProp 𝕄)
    ⊢ bigSep (Finset.Ico t (t + n)) fun i => four fun r => credAt c r i
  | 0, t => by
    rw [Nat.add_zero, Finset.Ico_self, bigSep_empty]
    exact Entails.of_eq (Pipeline.launchCred_zero c)
  | n + 1, t => by
    have ih := cred_duesFrom n (t + 1)
    unfold duesFrom duesAt
    rw [Pipeline.launchCred_add, Pipeline.launchCred_add, Pipeline.launchCred_add, Pipeline.launchCred_add,
      bigSep_Ico_succ_bot (by omega), show t + (n + 1) = t + 1 + n by omega]
    unfold four
    iintro ⟨HR, ⟨⟨H3, H2⟩, H1⟩, H0⟩
    isplitr [HR]
    · isplitl [H0]; · iapply (cred_due (F := F) c 0 t); iexact H0
      isplitl [H1]; · iapply (cred_due (F := F) c 1 t); iexact H1
      isplitl [H2]; · iapply (cred_due (F := F) c 2 t); iexact H2
      iapply (cred_due (F := F) c 3 t); iexact H3
    iapply ih; iexact HR

theorem creds :
    (Pipeline.launchCred O₀ c : sProp 𝕄)
      ⊢ iprop(cred (tallyAt (barCell c) 0 2) ∗ bigSep Finset.univ fun r : Fin 4 => bigSep (Finset.range 15) (credAt c r)) := by
  have e : (bigSep (Finset.Ico 0 (0 + 15)) fun i => four fun r => credAt c r i)
      = (bigSep Finset.univ fun r : Fin 4 => bigSep (Finset.range 15) (credAt c r) : sProp 𝕄) := by
    simp only [← four_eq]
    rw [conj_swap, Finset.range_eq_Ico]
  unfold O₀
  rw [Pipeline.launchCred_add, Pipeline.launchCred_add]
  iintro ⟨⟨HD, H0⟩, H1⟩
  ihave H0 := (cred_bar (F := F) c 0) $$ H0
  ihave H1 := (cred_bar (F := F) c 1) $$ H1
  isplitl [H0 H1]
  · rw [show (tallyAt (barCell c) 0 2 : CellTallies nD τ sig ℕ) = tallyAt (barCell c) 0 1 + tallyAt (barCell c) 0 1 from
      (tallyAt_add (barCell c) 0 1 1).symm]
    iapply (cred_add _ _).2
    isplitl [H0] <;> iassumption
  iapply (Entails.of_eq e)
  iapply (cred_duesFrom (F := F) c 15 0); iexact HD

/-! ## The tokens -/

/-- The token of duty kind `x.4` that `x.1` pays at copy `x.3` of ring `x.2`. -/
def tokOf (x : Dev nD × Fin 4 × ℕ × Fin 4) : GSem nD τ sig × ℕ × ℕ :=
  match x.2.2.2 with
  | 0 => (recvCell (tgt x.1 x.2.1) x.2.1 (x.2.2.1 + 1), x.2.2.1 / 3, 0)
  | 1 => (sendCell x.1 x.2.1 x.2.2.1, x.2.2.1 / 3, 0)
  | 2 => (credCell (src x.1 x.2.1) x.2.1, 0, x.2.2.1)
  | 3 => (barCell (tgt x.1 x.2.1), 0, x.2.1.val + 4 * x.2.2.1)

/-- Who pays it, read off the token. -/
def tokInv (y : GSem nD τ sig × ℕ × ℕ) : Dev nD × Fin 4 × ℕ × Fin 4 :=
  match role y.1.2 with
  | .recv n => (src y.1.1.1 (ringOf n), ringOf n, copyOf n y.2.1, 0)
  | .send n => (y.1.1.1, ringOf n, 3 * y.2.1 + n.val % 3, 1)
  | .cred r => (tgt y.1.1.1 r, r, y.2.2, 2)
  | .bar => (src y.1.1.1 ⟨y.2.2 % 4, Nat.mod_lt _ (by decide)⟩, ⟨y.2.2 % 4, Nat.mod_lt _ (by decide)⟩, y.2.2 / 4, 3)
  | .other => (0, 0, 0, 0)

theorem tokInv_tokOf : Function.LeftInverse tokInv tokOf := by
  rintro ⟨c, r, t, k⟩
  fin_cases k
  · show tokInv (recvCell (tgt c r) r (t + 1), t / 3, 0) = (c, r, t, 0)
    unfold tokInv; rw [role_recv]; dsimp only; rw [ringOf_slotIx, copyOf_slotIx, src_tgt]
  · show tokInv (sendCell c r t, t / 3, 0) = (c, r, t, 1)
    unfold tokInv; rw [role_send]; dsimp only
    rw [ringOf_slotIx, show 3 * (t / 3) + (3 * r.val + t % 3) % 3 = t by omega]
  · show tokInv (credCell (src c r) r, 0, t) = (c, r, t, 2)
    unfold tokInv; rw [role_cred]; dsimp only; rw [tgt_src]
  · show tokInv (barCell (tgt c r), 0, r.val + 4 * t) = (c, r, t, 3)
    unfold tokInv; rw [role_bar]; dsimp only
    have h : (⟨(r.val + 4 * t) % 4, Nat.mod_lt _ (by decide)⟩ : Fin 4) = r := Fin.ext (by show (r.val + 4 * t) % 4 = r.val; omega)
    rw [h, src_tgt, show (r.val + 4 * t) / 4 = t by omega]

def toks : Finset (GSem nD τ sig × ℕ × ℕ) :=
  ((Finset.univ : Finset (Dev nD)) ×ˢ (Finset.univ : Finset (Fin 4)) ×ˢ Finset.range 15 ×ˢ (Finset.univ : Finset (Fin 4))).map
    ⟨tokOf, tokInv_tokOf.injective⟩

/-- The tokens that `c` pays with at copy `t` of ring `r`, -/
def tokAt (r : Fin 4) (t : ℕ) : sProp 𝕄 :=
  iprop(dutyTok ER (recvCell (tgt c r) r (t + 1)) (t / 3) 0 ∗ dutyTok ER (sendCell c r t) (t / 3) 0
    ∗ dutyTok ER (credCell (src c r) r) 0 t ∗ dutyTok ER (barCell (tgt c r)) 0 (r.val + 4 * t))

end

theorem toks_sum (Φ : GSem nD τ sig × ℕ × ℕ → sProp 𝕄) :
    bigSep toks Φ = bigSep Finset.univ fun c : Dev nD => bigSep Finset.univ fun r : Fin 4 => bigSep (Finset.range 15) fun t =>
      iprop(Φ (tokOf (c, r, t, 0)) ∗ Φ (tokOf (c, r, t, 1)) ∗ Φ (tokOf (c, r, t, 2)) ∗ Φ (tokOf (c, r, t, 3))) := by
  unfold toks
  rw [bigSep_map, conj_pairs]
  refine bigSep_congr fun c _ => ?_
  rw [conj_pairs]
  refine bigSep_congr fun r _ => ?_
  rw [conj_pairs]
  exact bigSep_congr fun t _ => four_eq fun k => Φ (tokOf (c, r, t, k))

theorem toks_eq :
    bigSep toks (fun x => (dutyTok ER x.1 x.2.1 x.2.2 : sProp 𝕄))
      = bigSep Finset.univ fun c : Dev nD => bigSep Finset.univ fun r : Fin 4 => bigSep (Finset.range 15) (tokAt c r) := by
  rw [toks_sum]
  rfl

theorem keys_eq (Φ : SlotKey → sProp 𝕄) :
    bigSep keys Φ = bigSep Finset.univ fun c : Dev nD => bigSep Finset.univ fun r : Fin 4 => bigSep (Finset.range 15) fun t => Φ (c, r, t) := by
  unfold keys
  rw [conj_pairs]
  exact bigSep_congr fun c _ => conj_pairs _ _ _

/-- The releases' tokens, each with the device that will write the slot. -/
theorem writes_eq :
    (bigSep (keys ×ˢ Finset.range 1) fun x => (Release.writeTok ES x.1 (x.2 + 1) : sProp 𝕄))
      = bigSep Finset.univ fun c : Dev nD => bigSep Finset.univ fun r : Fin 4 => bigSep (Finset.range 15) fun t =>
          Release.writeTok ES (tgt c r, r, t) 1 := by
  have h1 : (bigSep (keys ×ˢ Finset.range 1) fun x => (Release.writeTok ES x.1 (x.2 + 1) : sProp 𝕄))
      = bigSep keys fun k => Release.writeTok ES k 1 := by
    rw [conj_pairs]; exact bigSep_congr fun k _ => by rw [Finset.range_one, bigSep_singleton]
  rw [h1, keys_eq, conj_swap, conj_swap (Finset.univ : Finset (Dev nD))]
  exact bigSep_congr fun r _ => bigSep_univ_equiv (tgtE r) _

theorem reads_eq :
    (bigSep keys fun k => (Release.readerAt ES k 0 : sProp 𝕄))
      = bigSep Finset.univ fun c : Dev nD => bigSep Finset.univ fun r : Fin 4 => bigSep (Finset.range 15) fun t =>
          Release.readerAt ES (c, r, t) 0 := keys_eq _

/-! ## Dealt to the steps -/

section
variable (c : Dev nD) (r : Fin 4)

/-- Everything a device has of ring `r`, copy by copy. -/
def ringRes : sProp 𝕄 :=
  iprop(bigSep (Finset.range 15) (credAt c r) ∗ bigSep (Finset.range 15) (tokAt c r)
    ∗ (bigSep (Finset.range 15) fun t => Release.readerAt ES (c, r, t) 0)
    ∗ bigSep (Finset.range 15) fun t => Release.writeTok ES (tgt c r, r, t) 1)

theorem range_ends (A B : ℕ → sProp 𝕄) :
    iprop(bigSep (Finset.range 15) A ∗ bigSep (Finset.range 15) B)
      ⊢ iprop(B 0 ∗ A 14 ∗ bigSep (Finset.range 14) fun t => iprop(A t ∗ B (t + 1))) := by
  have hB : bigSep (Finset.range 15) B = iprop(B 0 ∗ bigSep (Finset.range 14) fun t => B (t + 1)) := by
    rw [Finset.range_eq_Ico, bigSep_Ico_succ_bot (by decide)]
    rw [show Finset.Ico (0 + 1) 15 = (Finset.Ico 0 14).map ⟨fun t => t + 1, fun a b h => Nat.succ.inj h⟩ from by decide, bigSep_map,
      ← Finset.range_eq_Ico]
    rfl
  rw [bigSep_range_succ, hB, bigSep_sep']
  iintro ⟨⟨HA, HAs⟩, HB, HBs⟩
  isplitl [HB]; · iexact HB
  isplitl [HA]; · iexact HA
  isplitl [HAs] <;> iassumption

theorem step_deal (t : ℕ) (h14 : t < 14) :
    iprop((credAt c r t ∗ Release.writeTok ES (tgt c r, r, t) 1) ∗ (tokAt c r (t + 1) ∗ Release.readerAt ES (c, r, t + 1) 0))
      ⊢ (stepRes c r t : sProp 𝕄) := by
  unfold stepRes copyToks credIn credAt tokAt
  rw [show (if 1 ≤ t ∧ t ≤ 13 then (cred (tallyAt (credCell c r) t 1) : sProp 𝕄) else iprop(emp))
      = if 1 ≤ t then cred (tallyAt (credCell c r) t 1) else iprop(emp) from
    if_congr ⟨fun h => h.1, fun h => ⟨h, by omega⟩⟩ rfl rfl]
  iintro ⟨⟨⟨H1, H2⟩, H3⟩, ⟨H4, H5, H6, -⟩, H7⟩
  isplitl [H1]; · iexact H1
  isplitl [H4 H5]
  · isplitl [H5] <;> iassumption
  isplitl [H6]; · iexact H6
  isplitl [H7]; · iexact H7
  isplitl [H3]; · iexact H3
  iexact H2

theorem ring_deal :
    ringRes c r ⊢ (iprop((copyToks c r 0 ∗ dutyTok ER (barCell (tgt c r)) 0 r.val) ∗ bigSep (Finset.range 14) (stepRes c r)
      ∗ cred (tallyAt (recvCell c r 15) 14 N)) : sProp 𝕄) := by
  unfold ringRes
  have e : iprop(bigSep (Finset.range 15) (credAt c r) ∗ bigSep (Finset.range 15) (tokAt c r)
      ∗ (bigSep (Finset.range 15) fun t => Release.readerAt ES (c, r, t) 0)
      ∗ bigSep (Finset.range 15) fun t => Release.writeTok ES (tgt c r, r, t) 1)
      ⊢ (iprop((bigSep (Finset.range 15) fun t => iprop(credAt c r t ∗ Release.writeTok ES (tgt c r, r, t) 1))
        ∗ bigSep (Finset.range 15) fun t => iprop(tokAt c r t ∗ Release.readerAt ES (c, r, t) 0)) : sProp 𝕄) := by
    rw [bigSep_sep', bigSep_sep']
    iintro ⟨H1, H2, H3, H4⟩
    isplitl [H1 H4]
    · isplitl [H1] <;> iassumption
    isplitl [H2] <;> iassumption
  have e' : (bigSep (Finset.range 14) fun t => iprop((credAt c r t ∗ Release.writeTok ES (tgt c r, r, t) 1)
        ∗ (tokAt c r (t + 1) ∗ Release.readerAt ES (c, r, t + 1) 0))) ⊢ (bigSep (Finset.range 14) (stepRes c r) : sProp 𝕄) :=
    bigSep_mono fun t ht => step_deal c r t (Finset.mem_range.mp ht)
  refine (e.trans (range_ends _ _)).trans ?_
  unfold tokAt credAt at *
  iintro ⟨⟨⟨HtR, HtS, -, HtB⟩, -⟩, ⟨⟨HcR, -⟩, -⟩, H⟩
  isplitl [HtR HtS HtB]
  · isplitl [HtR HtS]
    · unfold copyToks
      isplitl [HtS] <;> iassumption
    iexact HtB
  isplitl [H]
  · iapply e' $$ H
  iexact HcR

end

section
variable (c : Dev nD)

theorem stepsRes_of : ∀ n s, (bigSep (Finset.Ico s (s + n)) fun t => four (fun r => stepRes c r t)) ⊢ (stepsRes c n s : sProp 𝕄)
  | 0, s => by
    unfold stepsRes
    rw [Nat.add_zero, Finset.Ico_self, bigSep_empty]
    exact Entails.refl _
  | n + 1, s => by
    unfold stepsRes
    rw [bigSep_Ico_succ_bot (by omega), show s + (n + 1) = s + 1 + n by omega]
    exact sep_mono_right (stepsRes_of n (s + 1))

/-- What the rings' resources are to the handshake, the first copies, the steps and the end. -/
theorem rings_deal :
    bigSep Finset.univ (ringRes c) ⊢ (iprop((dutyTok ER (barCell (tgt c 1)) 0 1 ∗ dutyTok ER (barCell (tgt c 0)) 0 0)
      ∗ four (fun r => copyToks c r 0) ∗ stepsRes c 14 0 ∗ four (fun r => cred (tallyAt (recvCell c r 15) 14 N))) : sProp 𝕄) := by
  have e1 : bigSep Finset.univ (ringRes c) ⊢ (bigSep Finset.univ fun r : Fin 4 =>
      iprop((copyToks c r 0 ∗ dutyTok ER (barCell (tgt c r)) 0 r.val) ∗ bigSep (Finset.range 14) (stepRes c r)
        ∗ cred (tallyAt (recvCell c r 15) 14 N)) : sProp 𝕄) := bigSep_mono fun r _ => ring_deal c r
  have e2 := stepsRes_of (F := F) c 14 0
  rw [Nat.zero_add, ← Finset.range_eq_Ico] at e2
  simp only [← four_eq] at e2
  rw [conj_swap] at e2
  refine e1.trans ?_
  rw [bigSep_sep', bigSep_sep', bigSep_sep']
  rw [four_eq fun r => copyToks c r 0, four_eq fun r => dutyTok ER (barCell (tgt c r)) 0 r.val, four_eq fun r => cred (tallyAt (recvCell c r 15) 14 N)]
  iintro ⟨⟨HT, HB⟩, HS, HC⟩
  unfold four
  icases HB with ⟨B0, B1, -, -⟩
  isplitl [B0 B1]
  · isplitl [B1]; · iexact B1
    iexact B0
  isplitl [HT]; · iexact HT
  isplitr [HC]
  · iapply e2; iexact HS
  iexact HC

end

end Cert.Proof

end
-- ==== Proof.LoopEq.lean ====
/-
  The printed body is the loop of `Loop.lean`: the printed parts unfold, one operation after another, to the loop's.
-/
module

public import proofs.«01_k».proof.Proof.Loop
public import proofs.«01_k».proof.Proof.Gen.KernelIdeal.Points

@[expose] public section

noncomputable section

namespace Cert.Proof

open Cert.KernelIdeal Cert.KernelIdeal.Gen

open Idealize.ShloMosaic Idealize.SL.Sem

variable {F : FTy → Type} [FloatOps F]

universe u in
/-- Two programs that begin with the same operation agree if they go on alike. -/
theorem op_congr {E : Type → Type u} {α β : Type} {e : E β} {k k' : β → Prog E α} (h : ∀ v, k v = k' v) :
    Prog.op e k = Prog.op e k' := congrArg _ (funext h)

/-- The four credit semaphores, by ring. -/
def credits (c0 c1 c2 c3 : Sems sig S_) : Fin 4 → Sems sig S_
  | 0 => c0
  | 1 => c1
  | 2 => c2
  | 3 => c3

set_option maxRecDepth 65536 in
set_option maxHeartbeats 0 in
theorem body_eq (arg0 : Memref sig .tc .vmem S4096x256 .bf16) (harg0 : arg0.IsWhole)
    (arg1 : Memref sig .tc .vmem S256x8192 .bf16) (harg1 : arg1.IsWhole)
    (arg2 : Memref sig .tc .vmem S256x8192 .f32) (harg2 : arg2.IsWhole)
    (arg3 : Memref sig .tc .vmem S12x256x2048 .bf16) (harg3 : arg3.IsWhole) (arg4 arg5 : DmaSems sig S12)
    (arg6 arg7 arg8 arg9 : Sems sig S_) :
    cc0_body (F := F) arg0 harg0 arg1 harg1 arg2 harg2 arg3 harg3 arg4 arg5 arg6 arg7 arg8 arg9
      = loopBody arg0 arg1 arg2 arg3 harg3 arg4 arg5 (credits arg6 arg7 arg8 arg9) := by
  repeat (refine op_congr fun _ => ?_)
  rfl

end Cert.Proof

end
-- ==== Proof.Point.lean ====
/-
  The body as the launch sees it: what is staged, what the result's buffer holds at the end whatever it held before,
  what a device has before the body and after it.
-/
module

public import proofs.«01_k».proof.Proof.Deal
public import proofs.«01_k».proof.Proof.LoopEq
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

/-! ## The result's buffer -/

section
variable (v : View sig .tc .vmem S256x8192 .f32) (g g' : v.ty.Contents (Elt F)) (X : (r : Fin 4) → (outRect r).shape.Idx → Elt F .f32)

/-- A buffer after the four stores. -/
def over : v.ty.Contents (Elt F) :=
  (v.slice (outRect 3)).write (Elt F) ((v.slice (outRect 2)).write (Elt F) ((v.slice (outRect 1)).write (Elt F)
    ((v.slice (outRect 0)).write (Elt F) g (X 0) Finset.univ) (X 1) Finset.univ) (X 2) Finset.univ) (X 3) Finset.univ

theorem out_disjoint (r r' : Fin 4) (h : r ≠ r') : Disjoint (v.slice (outRect r)).set (v.slice (outRect r')).set := by
  refine View.disjoint_slice_of_sep v (outRect r) (outRect r') (1 : Fin 2) rfl rfl ?_
  revert r r'; decide

theorem read_other (r r' : Fin 4) (h : r ≠ r') (w : (outRect r').shape.Idx → Elt F .f32) :
    (v.slice (outRect r)).read (Elt F) ((v.slice (outRect r')).write (Elt F) g w Finset.univ) = (v.slice (outRect r)).read (Elt F) g :=
  View.read_slice_write_slice_of_disjoint (outRect r) (outRect r') g w Finset.univ (out_disjoint v r r' h)

/-- After the four stores, ring `r`'s columns hold what was stored there. -/
theorem over_read (r : Fin 4) : (v.slice (outRect r)).read (Elt F) (over v g X) = X r := by
  have h : r = 0 ∨ r = 1 ∨ r = 2 ∨ r = 3 := by revert r; decide
  unfold over
  rcases h with rfl | rfl | rfl | rfl
  · rw [read_other v _ 0 3 (by decide), read_other v _ 0 2 (by decide), read_other v _ 0 1 (by decide), View.read_write_univ]
  · rw [read_other v _ 1 3 (by decide), read_other v _ 1 2 (by decide), View.read_write_univ]
  · rw [read_other v _ 2 3 (by decide), View.read_write_univ]
  · rw [View.read_write_univ]

/-- Every index is in one ring's columns. -/
theorem out_cover (y : S256x8192.Idx) : ∃ r x, (outRect r).emb x = y := by
  have h (r : Fin 4) (hr : outCol r ≤ (y (1 : Fin 2)).val ∧ (y (1 : Fin 2)).val < outCol r + 2048) : ∃ r x, (outRect r).emb x = y := by
    have hm : y ∈ (outRect r).set := by
      rw [Rect.mem_set_unit]
      intro a
      fin_cases a
      · exact ⟨Nat.zero_le _, (y (0 : Fin 2)).isLt.trans_eq (Nat.zero_add _).symm⟩
      · exact hr
    obtain ⟨x, hx⟩ := (outRect r).exists_idx_of_mem hm
    exact ⟨r, x, hx⟩
  have hi : (y (1 : Fin 2)).val < 8192 := (y (1 : Fin 2)).isLt
  by_cases h1 : (y (1 : Fin 2)).val < 2048
  · exact h 0 ⟨Nat.zero_le _, (show (y (1 : Fin 2)).val < 0 + 2048 by omega)⟩
  by_cases h2 : (y (1 : Fin 2)).val < 4096
  · exact h 2 (show 2048 ≤ (y (1 : Fin 2)).val ∧ (y (1 : Fin 2)).val < 2048 + 2048 by omega)
  by_cases h3 : (y (1 : Fin 2)).val < 6144
  · exact h 1 (show 4096 ≤ (y (1 : Fin 2)).val ∧ (y (1 : Fin 2)).val < 4096 + 2048 by omega)
  · exact h 3 (show 6144 ≤ (y (1 : Fin 2)).val ∧ (y (1 : Fin 2)).val < 6144 + 2048 by omega)

/-- So what it held before does not matter. -/
theorem over_read_any : v.read (Elt F) (over v g X) = v.read (Elt F) (over v g' X) := by
  funext y
  obtain ⟨r, x, rfl⟩ := out_cover y
  show (v.slice (outRect r)).read (Elt F) (over v g X) x = (v.slice (outRect r)).read (Elt F) (over v g' X) x
  rw [over_read, over_read]

end

theorem outOver_over (c : Dev nD) (p : Dev nD → ℕ → Parts F) (g : (cc0_stg2_0 : Ref sig .tc).ty.Contents (Elt F)) :
    outOver c p g = over oM.view g (fin p c) := rfl

theorem outOver_any (c : Dev nD) (p : Dev nD → ℕ → Parts F) (g g' : (cc0_stg2_0 : Ref sig .tc).ty.Contents (Elt F)) :
    outOver c p g = outOver c p g' := by
  have h := over_read_any oM.view g g' (fin p c)
  rw [← outOver_over, ← outOver_over] at h
  exact h

/-! ## The pipeline's data -/

section
variable (m : (ℓ : Loc nD τ sig) → Buf (Elt F) ℓ)

def xstg (c : Dev nD) : (cc0_stg0_0 : Ref sig .tc).ty.Contents (Elt F) :=
  (win0_0.blk (0 : Fin 1)).view.read (Elt F) (m ((c : Thread nD τ).loc main_arg0))
def wstg (c : Dev nD) : (cc0_stg1_0 : Ref sig .tc).ty.Contents (Elt F) :=
  (win0_1.blk (0 : Fin 1)).view.read (Elt F) (m ((c : Thread nD τ).loc main_arg1))

/-- The products of every step on every device. -/
abbrev PM : Dev nD → ℕ → Parts F := PP (xstg m) (wstg m)

/-- The kernel's result on device `c`. -/
def outAt (c : Dev nD) : (cc0_stg2_0 : Ref sig .tc).ty.Contents (Elt F) := outOver c (PM m) fun _ => FloatOps.ofBits .f32 0

/-- What a device starts from, but for the communication buffer. -/
def begin (c : Dev nD) : sProp 𝕄 :=
  iprop(∃ K κ, recs (acc (PM m)) K κ ∗ barRes c ∗ four (ring0 c) ∗ four (fun r => copyToks c r 0) ∗ stepsRes c 14 0
    ∗ four (fun r => cred (tallyAt (recvCell c r 15) 14 N)))

def Φ₀ (c : Dev nD) : sProp 𝕄 := iprop(begin m c ∗ four (three c))
def Φ₁ (c : Dev nD) : sProp 𝕄 := iprop(semVal (barCell c) 0 ∗ four (ringEnd c))

def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => wstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer held at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch_x (t : Fin cfg0.N) : (cfg0.win (0 : Fin 3)).fetch t = true := by rw [show t = t0_0 from fin_N0 t]; rfl
theorem fetch_w (t : Fin cfg0.N) : (cfg0.win (1 : Fin 3)).fetch t = true := by rw [show t = t0_0 from fin_N0 t]; rfl

def bodyPre (c : Dev nD) : sProp 𝕄 :=
  iprop(Φ₀ m c ∗ (dats m 0 c).owesAt 0 (t0_0 : Fin cfg0.N).castSucc
    ∗ (∃ d, stg c cc0_stg0_0 ((dats m 0 c).before (0 : Fin 3) (t0_0 : Fin cfg0.N) d))
    ∗ (∃ d, stg c cc0_stg1_0 ((dats m 0 c).before (1 : Fin 3) (t0_0 : Fin cfg0.N) d))
    ∗ (∃ d, stg c cc0_stg2_0 ((dats m 0 c).before (2 : Fin 3) (t0_0 : Fin cfg0.N) d)))

def bodyPost (c : Dev nD) : sProp 𝕄 :=
  iprop(Φ₁ c ∗ (dats m 0 c).owesAt 0 (t0_0 : Fin cfg0.N).succ
    ∗ stg c cc0_stg0_0 (xstg m c) ∗ stg c cc0_stg1_0 (wstg m c) ∗ stg c cc0_stg2_0 (outAt m c))

theorem slots_deal (c : Dev nD) :
    four (three c) ⊢ (iprop(four (fun r => slotAny c (slotIx r 0)) ∗ four (free c)) : sProp 𝕄) := by
  rw [show four (three c) = (four fun r => iprop(slotAny c (slotIx r 0) ∗ free c r) : sProp 𝕄) from rfl, four_sep]

theorem sound_body (c : Dev nD) :
    bodyPre m c ⊢ WP c (loopBody xM wM oM bM (Memref.isWhole_whole _) cc0_scratch1 cc0_scratch2 credSems) (fun _ => bodyPost m c) := by
  unfold bodyPre Φ₀ begin
  iintro ⟨⟨⟨%K, %κ, #HR, HB, HP, HT, HSS, HC⟩, Hsl⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch_x _)]; rfl
  have hw : g1 = wstg m c := by rw [hg1]; unfold Dat.before; rw [if_pos (fetch_w _)]; rfl
  subst hx hw
  unfold Dat.owesAt Pipeline.owesWithin
  icases Ho with ⟨%W, %hW, HO⟩
  ihave Hsl := (slots_deal (F := F) c) $$ Hsl
  icases Hsl with ⟨HS, HF⟩
  iapply (wp_loopBody (xstg m) (wstg m) K κ (Memref.isWhole_whole _) c g2)
  isplitr; · iexact HR
  isplitl [HB HF HS HP HT]
  · unfold startRes
    isplitl [HB]; · iexact HB
    isplitl [HF]; · iexact HF
    isplitl [HS]; · iexact HS
    isplitl [HP] <;> iassumption
  isplitl [HSS]; · iexact HSS
  isplitl [HC]; · iexact HC
  isplitl [HO]; · unfold owing; iexists W; iexact HO
  isplitl [Hx Hw]
  · unfold staged; isplitl [Hx] <;> iassumption
  isplitl [Hout]; · iexact Hout
  unfold owing staged
  iintro ⟨Hz, HE, ⟨%W', HO⟩, ⟨Hx, Hw⟩, Hout⟩
  unfold bodyPost Φ₁ Dat.owesAt Pipeline.owesWithin
  isplitl [Hz HE]
  · isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _
  isplitr
  · ipureintro; exact outOver_any c (PM m) g2 _
  iexact Hout

theorem bodyAt_eq (t : Fin cfg0.N) :
    (bodyAt0 t : Prog (TpuEff nD τ sig (Elt F) Λ₀ .tc) PUnit)
      = loopBody xM wM oM bM (Memref.isWhole_whole _) cc0_scratch1 cc0_scratch2 credSems := by
  refine (body_eq ..).trans ?_
  rw [show t = t0_0 from fin_N0 t]
  have h : credits cc0_scratch3 cc0_scratch4 cc0_scratch5 cc0_scratch6 = credSems := by funext r; fin_cases r <;> rfl
  rw [h]

theorem pre_eq (c : Dev nD) :
    iprop(Φ₀ m c ∗ (dats m 0 c).owesAt 0 (t0_0 : Fin cfg0.N).castSucc
      ∗ (∃ d, owns (c : Thread nD τ) xM fullShare ((dats m 0 c).before (0 : Fin 3) (t0_0 : Fin cfg0.N) d))
      ∗ (∃ d, owns (c : Thread nD τ) wM fullShare ((dats m 0 c).before (1 : Fin 3) (t0_0 : Fin cfg0.N) d))
      ∗ (∃ d, owns (c : Thread nD τ) oM fullShare ((dats m 0 c).before (2 : Fin 3) (t0_0 : Fin cfg0.N) d)))
    = (bodyPre m c : sProp 𝕄) := by
  unfold bodyPre
  simp only [owns_whole_eq]

theorem post_eq (c : Dev nD) :
    iprop(Φ₁ c ∗ (dats m 0 c).owesAt 0 (t0_0 : Fin cfg0.N).succ
      ∗ owns (c : Thread nD τ) xM fullShare (xstg m c) ∗ owns (c : Thread nD τ) wM fullShare (wstg m c) ∗ owns (c : Thread nD τ) oM fullShare (outAt m c))
    = (bodyPost m c : sProp 𝕄) := by
  unfold bodyPost
  simp only [owns_whole_eq]

theorem sound_point (c : Dev nD) : bodyPre m c ⊢ WP c (bodyAt0 (t0_0 : Fin cfg0.N)) (fun _ => bodyPost m c) :=
  (sound_body m c).trans (Entails.of_eq (congrArg (fun p => WP c p fun _ => bodyPost m c) (bodyAt_eq t0_0).symm))

theorem row_eq (t : Fin cfg0.N) :
    (defs₀ (F := F) .tc cfg0.body (cfg0.bodyArgs t (cfg0.slots t)) : Prog (TpuEff nD τ sig (Elt F) Λ₀ .tc) PUnit) = bodyAt0 t := rfl

set_option maxRecDepth 16384 in
/-- The launch's body obligation on core `c`. -/
theorem body_obligation (c : Dev nD) : BodyObligation (dats (F := F) m 0 c) (defs₀ (F := F)) 𝒱₀ 0 Set.univ := fun t => by
  rw [show t = t0_0 from fin_N0 t, bigSep_W0, bigSep_W0, row_eq]
  have e := sound_point m c
  rw [← pre_eq, ← post_eq] at e
  generalize (bodyAt0 (t0_0 : Fin cfg0.N) : Prog (TpuEff nD τ sig (Elt F) Λ₀ .tc) PUnit) = B at e ⊢
  exact e

end

end Cert.Proof

end
-- ==== Proof.Launch.lean ====
/-
  The launch: the rings' and the releases' algebra minted on one device, the one step over all devices that makes
  invariants of the cells and the slots and deals the rest out, and the run of the whole program.
-/
module

public import proofs.«01_k».proof.Proof.Point
public import proofs.«01_k».proof.Proof.Gen.KernelIdeal.Frame
public import Idealize.ShloMosaic.Lib.Pipeline.CollectiveSegs

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

/-! ## The cells, device by device -/

/-- A device's own semaphores: all its cells' but the barrier's. -/
abbrev osem : Fin 4 × Fin 7 → SemLoc sig := fun k => csem (some k)

theorem ownSemFacts : Pipeline.OwnSemFacts cfg0.spec osem := by decide

/-- Over the cells of one ring. -/
def onRing (Φ : GSem nD τ sig → sProp 𝕄) (c : Dev nD) (r : Fin 4) : sProp 𝕄 :=
  iprop(Φ (recvCell c r 1) ∗ Φ (recvCell c r 2) ∗ Φ (recvCell c r 3) ∗ Φ (sendCell c r 0) ∗ Φ (sendCell c r 1) ∗ Φ (sendCell c r 2)
    ∗ Φ (credCell c r))

theorem own_cells (Φ : GSem nD τ sig → sProp 𝕄) (c : Dev nD) :
    (bigSep Finset.univ fun k : Fin 4 × Fin 7 => Φ ((c : Thread nD τ), osem k)) = four (onRing Φ c) := by
  rw [bigSep_univ_prod, four_eq]
  exact congrArg four (funext fun r => bigSep_univ_eq_bigSepL ([0, 1, 2, 3, 4, 5, 6] : List (Fin 7)) (by decide) (by decide) _)

theorem cells_eq (Φ : GSem nD τ sig → sProp 𝕄) :
    bigSep cells Φ = bigSep Finset.univ fun c : Dev nD => iprop(Φ (barCell c) ∗ four (onRing Φ c)) := by
  unfold cells
  rw [bigSep_map, bigSep_univ_prod]
  refine bigSep_congr fun c _ => ?_
  rw [bigSep_univ_at _ none, show (Finset.univ : Finset CellIx).erase none = Finset.univ.map ⟨some, Option.some_injective _⟩ from by decide,
    bigSep_map, ← own_cells]
  rfl

theorem ownSems0_eq (c : Dev nD) :
    (Pipeline.ownSems0 (Ix := ℕ) (Name := ℕ) (U := UU) (Lvl := ℕ) (Val := Elt F) (τ := τ) osem c : sProp 𝕄)
      = four (onRing (fun g => semVal g 0) c) := own_cells (fun g => semVal g 0) c
theorem unscopedSems0_eq (c : Dev nD) : (unscopedSems0 c : sProp 𝕄) = semVal (barCell c) 0 := by
  unfold unscopedSems0; rw [bigSep_eq_bigSepL_of_eq [SemLoc.reg barSems.sem] (by decide) (by decide)]; rfl

/-! ## What is minted -/

section
variable (m : (ℓ : Loc nD τ sig) → Buf (Elt F) ℓ)

abbrev uRing : UB × Release.USlots SlotKey := (initOf cells toks, Release.initSlots keys 1)
def u₀ : UU := (initOf (Pipeline.cells cfgs cellOf_inj) (Pipeline.launchToks cfgs cellOf_inj), uRing)

def minted : sProp 𝕄 :=
  iprop((bigSep cells fun g => roundState ER (Rd (acc (PM m))) g 0) ∗ (bigSep cells fun g => reached ER g 0)
    ∗ (bigSep cells fun g => atPos ER g 0 ∅ 0) ∗ (bigSep toks fun x => dutyTok ER x.1 x.2.1 x.2.2)
    ∗ BI.own (ES (Release.initSlots keys 1)))

def G (c : Dev nD) : sProp 𝕄 := if c = 0 then minted m else iprop(emp)

theorem at_zero (X : sProp 𝕄) : (bigSep Finset.univ fun c : Dev nD => if c = 0 then X else iprop(emp)) = X := by
  have e : (bigSep (Finset.univ.erase (0 : Dev nD)) fun c : Dev nD => if c = 0 then X else iprop(emp)) = iprop(emp) :=
    (bigSep_congr fun c h => if_neg (Finset.ne_of_mem_erase h)).trans (bigSep_emp_const _)
  rw [bigSep_univ_at _ (0 : Dev nD), if_pos rfl, e]
  exact equiv_iff.mp BI.sep_emp

theorem mint : BI.own (ERS uRing) ⊢ (|==> bigSep Finset.univ (G m) : sProp 𝕄) := by
  unfold G
  rw [at_zero]
  unfold minted
  have e : (BI.own (ERS uRing) : sProp 𝕄) ⊢ iprop(BI.own (ER (initOf cells toks)) ∗ BI.own (ES (Release.initSlots keys 1))) :=
    own_pair_emb ERS (initOf cells toks) (Release.initSlots keys 1)
  iintro H
  ihave H := e $$ H
  icases H with ⟨HR, HS⟩
  imod (Rounds.fund ER (Rd (acc (PM m))) cells toks) $$ HR with ⟨H1, H2, H3, H4⟩
  imodintro
  isplitl [H1]; · iexact H1
  isplitl [H2]; · iexact H2
  isplitl [H3]; · iexact H3
  isplitl [H4]; · iexact H4
  iexact HS

theorem parts : (ownU u₀ : sProp 𝕄)
    ⊢ iprop(BI.own (EP (initOf (Pipeline.cells cfgs cellOf_inj) (Pipeline.launchToks cfgs cellOf_inj))) ∗ BI.own (ERS uRing)) :=
  ownU_pair _ _

/-! ## The one step over all devices -/

/-- What every device knows, but for the levels. -/
def known (K : GSem nD τ sig → ℕ) (κ : SlotKey → ℕ) : sProp 𝕄 :=
  iprop((bigSep cells fun g => cellInv ER (Rd (acc (PM m))) (K g) g) ∗ (bigSep cells fun g => reached ER g 0)
    ∗ (bigSep keys fun k => Release.slotInv ES (κ k) k (relSlot k)))

instance known_persistent (K : GSem nD τ sig → ℕ) (κ : SlotKey → ℕ) : BI.Persistent (known m K κ) := by
  unfold known; infer_instance

/-- What a device has of a ring but the credits. -/
def ringGot (c : Dev nD) (r : Fin 4) : sProp 𝕄 :=
  iprop(bigSep (Finset.range 15) (tokAt c r)
    ∗ (bigSep (Finset.range 15) fun t => Release.readerAt ES (c, r, t) 0)
    ∗ bigSep (Finset.range 15) fun t => Release.writeTok ES (tgt c r, r, t) 1)

/-- What is a device's alone. -/
def alone (c : Dev nD) : sProp 𝕄 :=
  iprop((atPos ER (barCell c) 0 ∅ 0 ∗ four (ring0 c)) ∗ bigSep Finset.univ (ringGot c))

def G' (c : Dev nD) : sProp 𝕄 := iprop(∃ K κ, known m K κ ∗ alone c)

theorem G'_intro (K : GSem nD τ sig → ℕ) (κ : SlotKey → ℕ) (c : Dev nD) : iprop(known m K κ ∗ alone c) ⊢ G' m c := by
  unfold G'
  iintro H
  iexists K; iexists κ; iexact H

theorem all_G' (K : GSem nD τ sig → ℕ) (κ : SlotKey → ℕ) :
    iprop(known m K κ ∗ bigSep Finset.univ alone) ⊢ bigSep Finset.univ (G' m) :=
  (sep_mono_left (BI.bigSep_of_persistent Finset.univ (known m K κ))).trans
    (by rw [← bigSep_sep']; exact bigSep_mono fun c _ => G'_intro m K κ c)

theorem alone_all :
    iprop((bigSep cells fun g => atPos ER g 0 ∅ 0) ∗ (bigSep toks fun x => dutyTok ER x.1 x.2.1 x.2.2)
      ∗ (bigSep keys fun k => Release.readerAt ES k 0) ∗ (bigSep (keys ×ˢ Finset.range 1) fun x => Release.writeTok ES x.1 (x.2 + 1)))
      ⊢ (bigSep Finset.univ alone : sProp 𝕄) := by
  have e : (bigSep Finset.univ fun c : Dev nD => bigSep Finset.univ (ringGot c))
      = (iprop((bigSep Finset.univ fun c : Dev nD => bigSep Finset.univ fun r : Fin 4 => bigSep (Finset.range 15) (tokAt c r))
        ∗ (bigSep Finset.univ fun c : Dev nD => bigSep Finset.univ fun r : Fin 4 => bigSep (Finset.range 15) fun t =>
            Release.readerAt ES (c, r, t) 0)
        ∗ bigSep Finset.univ fun c : Dev nD => bigSep Finset.univ fun r : Fin 4 => bigSep (Finset.range 15) fun t =>
            Release.writeTok ES (tgt c r, r, t) 1) : sProp 𝕄) := by
    unfold ringGot
    rw [← bigSep_sep', ← bigSep_sep']
    refine bigSep_congr fun c _ => ?_
    rw [← bigSep_sep', ← bigSep_sep']
  have e' : (bigSep Finset.univ (alone (F := F))) = iprop((bigSep cells fun g => atPos ER g 0 ∅ 0)
      ∗ bigSep Finset.univ fun c : Dev nD => bigSep Finset.univ (ringGot c)) := by
    rw [cells_eq, ← bigSep_sep']
    rfl
  rw [e', e, toks_eq, writes_eq, reads_eq]

theorem cells_alloc :
    iprop((bigSep cells fun g => semVal g 0) ∗ bigSep cells fun g => roundState ER (Rd (acc (PM m))) g 0)
      ⊢ (|={Set.univ}=> ∃ K : GSem nD τ sig → ℕ, bigSep cells fun g => cellInv ER (Rd (acc (PM m))) (K g) g : sProp 𝕄) := by
  rw [← bigSep_sep']
  have h1 : (bigSep cells fun g => iprop(semVal g 0 ∗ roundState ER (Rd (acc (PM m))) g 0))
      ⊢ (|={Set.univ}=> bigSep cells fun g => iprop(∃ κ : ℕ, cellInv ER (Rd (acc (PM m))) κ g) : sProp 𝕄) :=
    (bigSep_mono fun g _ => (Rounds.body_intro ER (Rd (acc (PM m))) g).trans inv_alloc).trans (bigSep_fupd _ _)
  exact h1.trans (BI.fupd_mono (BI.bigSep_exists_pi cells fun g (κ : ℕ) => cellInv ER (Rd (acc (PM m))) κ g))

theorem step_all :
    iprop((bigSep cells fun g => semVal g 0) ∗ minted m) ⊢ (|={Set.univ}=> bigSep Finset.univ (G' m) : sProp 𝕄) := by
  unfold minted
  iintro ⟨Hv, Hst, #Hr, Hat, Htok, HS⟩
  imod (cells_alloc m) $$ [Hv Hst] with ⟨%K, #HI⟩
  · isplitl [Hv] <;> iassumption
  imod (Release.slots_init ES keys 1 relSlot) $$ HS with ⟨%κ, -, #HV, Hrd, Hwr⟩
  imodintro
  iapply (all_G' m K κ)
  isplitr
  · unfold known
    isplitr; · iexact HI
    isplitr; · iexact Hr
    iexact HV
  iapply (alone_all (F := F))
  isplitl [Hat]; · iexact Hat
  isplitl [Htok]; · iexact Htok
  isplitl [Hrd] <;> iassumption

theorem glob :
    (bigSep Finset.univ fun c => iprop(Pipeline.ownSems0 (Ix := ℕ) (Name := ℕ) (U := UU) (Lvl := ℕ) (Val := Elt F) (τ := τ) osem c
      ∗ unscopedSems0 c ∗ G m c) : sProp 𝕄) ⊢ |={Set.univ}=> bigSep Finset.univ (G' m) := by
  have e : (bigSep Finset.univ fun c => iprop(Pipeline.ownSems0 (Ix := ℕ) (Name := ℕ) (U := UU) (Lvl := ℕ) (Val := Elt F) (τ := τ) osem c
      ∗ unscopedSems0 c ∗ G m c) : sProp 𝕄) ⊢ iprop((bigSep cells fun g => semVal g 0) ∗ minted m) := by
    have hG : bigSep Finset.univ (G m) = minted m := at_zero (minted m)
    rw [bigSep_sep', bigSep_sep', hG, cells_eq, bigSep_sep', bigSep_congr fun c _ => ownSems0_eq (F := F) c,
      bigSep_congr fun c _ => unscopedSems0_eq (F := F) c]
    iintro ⟨H1, H2, H3⟩
    isplitl [H1 H2]
    · isplitl [H2] <;> iassumption
    iexact H3
  exact e.trans (step_all m)

/-! ## Into the body and out of it -/

theorem rings_of (c : Dev nD) :
    iprop((bigSep Finset.univ fun r : Fin 4 => bigSep (Finset.range 15) (credAt c r)) ∗ bigSep Finset.univ (ringGot c))
      ⊢ (bigSep Finset.univ (ringRes c) : sProp 𝕄) := by
  rw [← bigSep_sep']
  exact Entails.refl _

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(begin m c ∗ emp) := by
  unfold G' alone known begin recs barRes
  iintro ⟨-, Hlev, Hcr, -, ⟨%K, %κ, ⟨HI, Hr, HV⟩, ⟨⟨Hb, H0⟩, Hg⟩⟩⟩
  ihave Hc := (creds (F := F) c) $$ Hcr
  icases Hc with ⟨HcB, Hcr⟩
  ihave H := (rings_of (F := F) c) $$ [Hcr Hg]
  · isplitl [Hcr] <;> iassumption
  ihave H := (rings_deal (F := F) c) $$ H
  icases H with ⟨⟨Ht1, Ht0⟩, Hct, Hst, Hla⟩
  imodintro
  isplitl
  · iexists K; iexists κ
    isplitl [HI Hr HV Hlev]
    · isplitl [HI]; · iexact HI
      isplitl [Hr]; · iexact Hr
      isplitl [HV]; · iexact HV
      iexact Hlev
    isplitl [Hb HcB Ht1 Ht0]
    · isplitl [Hb]; · iexact Hb
      isplitl [HcB]; · iexact HcB
      isplitl [Ht1]; · iexact Ht1
      iexact Ht0
    isplitl [H0]; · iexact H0
    isplitl [Hct]; · iexact Hct
    isplitl [Hst]; · iexact Hst
    iexact Hla
  · iempintro

theorem phi0_intro (c : Dev nD) :
    iprop(begin m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iapply (slots_split c f); iexact Hr

theorem ends_split (c : Dev nD) :
    four (ringEnd c) ⊢ (iprop(four (onRing (fun g => semVal g 0) c) ∗ four (three c)) : sProp 𝕄) := by
  rw [← four_sep]
  refine four_mono fun r => ?_
  unfold ringEnd onRing three
  iintro ⟨HS, HV⟩
  isplitl [HV]; · iexact HV
  iexact HS

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨HB, HR⟩
  ihave H := (ends_split (F := F) c) $$ HR
  icases H with ⟨HV, HS⟩
  isplitl [HB]; · iexact HB
  isplitl [HV]; · iexact HV
  iapply (slots_join (F := F) c); iexact HS

theorem lv_stage (c : Dev nD) : ∀ (w : Fin 3) (s : Fin ((cfg0.win w).nbuf)),
    lv ((c : Thread nD τ), .dma ((cfg0.win w).sem s)) 0 ≤ 0 := by
  intro w s
  unfold lv
  rw [show role (.dma ((cfg0.win w).sem s)) = Role.other from by revert s; revert w; decide]

theorem waits (c : Dev nD) : (levAts L lv : sProp 𝕄) ⊢ Pipeline.cellsWaits cfgs (dats m) 0 0 c :=
  Pipeline.cellsWaits_intro cfgs (dats m) 0 0 c fun w s t =>
    mayWait (l := 0) (by decide) (lv_stage c w s) (by
      rcases t with ⟨_ | _, ht⟩
      · exact above_O₀ c
      · exact above_zero 0)

theorem share_eq (c : Dev nD) (w : Fin cfg0.W) : (dats m 0 c).share w = fullShare := by unfold Dat.share; split <;> rfl

/-! ## The run -/

/-- What a device's arrays hold at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 100000 in
/-- From any memory with the semaphores at zero the sixteen devices' programs all end, with the arrays as computed and
    the semaphores at zero again. -/
theorem run_main (ρ : Dev nD → PrngReg) :
    θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun c => (main_chain c).trans rfl)
    (hbody := body_obligation m) (hne := fun w => by fin_cases w <;> exact Nat.succ_pos _) (harr := arr_whole0)
    (hstage := stage_whole0) (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      iintro Hu
      ihave H := (parts (F := F)) $$ Hu
      icases H with ⟨HP, HX⟩
      imod (mint m) $$ HX with HG
      imodintro
      isplitl [HP] <;> iassumption)
    (hglob := glob m)
    (hA := fun _ _ => rfl) (hpf := fun _ k => k.elim0)
    (X := begin m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end

end Cert.Proof

end
-- ==== Proof.Value.lean ====
/-
  What the rings compute over the extended reals: changes of format are the identity there, so the sum a ring carries
  is the sum of the products of the devices it has passed, all of the same block of rows; after sixteen devices it is
  the whole contraction.
-/
module

public import proofs.«01_k».proof.Proof.Launch
public import Idealize.ShloMosaic.Lib.ValueIdx
public import Idealize.ShloMosaic.Lib.MatmulPlain
public import Idealize.ShloMosaic.Lib.Layout
public import Idealize.ShloMosaic.Lib.StackMember

@[expose] public section

noncomputable section

namespace Cert.Proof

open Cert.KernelIdeal Cert.KernelIdeal.Gen

open Idealize.ShloMosaic Idealize.ShloMosaic.ValueIdx
open Idealize.ShloMosaic.TcCoe
open Idealize.SL.Sem
open scoped BigOperators

/-! ## Which rows go where -/

/-- The block of rows whose product device `d` adds to ring `r` at step `s`. -/
def own (r : Fin 4) (s : ℕ) (d : Dev nD) : Fin 16 :=
  match r with
  | 0 => ⟨(d.val + 31 - s) % 16, Nat.mod_lt _ (by decide)⟩
  | 1 => ⟨(d.val + 1 + s) % 16, Nat.mod_lt _ (by decide)⟩
  | 2 => ⟨(d.val + 31 - s) % 16, Nat.mod_lt _ (by decide)⟩
  | 3 => ⟨(d.val + 1 + s) % 16, Nat.mod_lt _ (by decide)⟩

theorem off1_eq (d : Dev nD) (s : Fin 16) : k0_off1 d (BitVec.ofNat 32 (16 + (15 - s.val))) 0 = 256 * (own 0 s.val d).val := by
  revert d s; decide +kernel
theorem off2_eq (d : Dev nD) (s : Fin 16) : k0_off2 d (BitVec.ofNat 32 (s.val % 16)) 0 = 256 * (own 1 s.val d).val := by
  revert d s; decide +kernel

theorem src_val (c : Dev nD) (r : Fin 4) :
    (src c r).val = (match r with | 0 => c.val + 15 | 1 => c.val + 1 | 2 => c.val + 15 | 3 => c.val + 1) % 16 := by
  revert c r; decide +kernel

/-- The rows stay the same all the way round, -/
theorem own_succ (r : Fin 4) (s : ℕ) (hs : s < 15) (c : Dev nD) : own r (s + 1) c = own r s (src c r) := by
  have h : ∀ (r : Fin 4) (s : Fin 15) (c : Dev nD), own r (s.val + 1) c = own r s.val (src c r) := by decide +kernel
  exact h r ⟨s, hs⟩ c
/-- and end at the device that keeps them. -/
theorem own_last (r : Fin 4) (c : Dev nD) : own r 15 c = c := by
  revert r c; decide +kernel

/-- The device `u` places before `c` on ring `r`; -/
def back (r : Fin 4) : ℕ → Dev nD → Dev nD
  | 0, c => c
  | u + 1, c => back r u (src c r)

/-- the sixteen of them are all of them. -/
theorem back_bij (r : Fin 4) (c : Dev nD) : Function.Bijective fun u : Fin 16 => back r u.val c := by
  have h : ∀ (r : Fin 4) (c : Dev nD), Function.Injective fun u : Fin 16 => back r u.val c := by
    unfold Function.Injective; decide +kernel
  exact Finite.injective_iff_bijective.mp (h r c)

/-! ## The sums -/

section
variable (P : Dev nD → ℕ → Parts Ideal) (D : Dev nD → Fin 16 → S256x2048.Idx → EReal) (r : Fin 4)
  (hP : ∀ d, ∀ s < 16, ∀ y, quarter r (P d s) y = D d (own r s d) y)
include hP

theorem accAt_sum : ∀ (s : ℕ), s < 15 → ∀ (c : Dev nD) (y : S256x2048.Idx),
    accAt P r s c y = ∑ u ∈ Finset.range (s + 1), D (back r u c) (own r s c) y
  | 0, _, c, y => by
    rw [Finset.sum_range_one]
    exact hP c 0 (by decide) y
  | s + 1, hs, c, y => by
    rw [Finset.sum_range_succ']
    refine Eq.trans ?_ (add_comm _ _)
    refine (show accAt P r (s + 1) c y = quarter r (P c (s + 1)) y + accAt P r s (src c r) y from rfl).trans ?_
    rw [hP c (s + 1) (by omega) y, accAt_sum s (by omega) (src c r) y, own_succ r s (by omega) c]
    rfl

/-- Ring `r`'s columns of device `c`'s result: the sum over the devices of their products of `c`'s rows. -/
theorem fin_sum (c : Dev nD) (y : S256x2048.Idx) : fin P c r y = ∑ d : Dev nD, D d c y := by
  have h : fin P c r y = ∑ u ∈ Finset.range 16, D (back r u c) c y := by
    rw [Finset.sum_range_succ']
    refine Eq.trans ?_ (add_comm _ _)
    refine (show fin P c r y = quarter r (P c 15) y + accAt P r 14 (src c r) y from rfl).trans ?_
    rw [hP c 15 (by decide) y, accAt_sum P D r hP 14 (by decide) (src c r) y, own_last, ← own_succ r 14 (by decide) c, own_last]
    rfl
  rw [h, Finset.sum_range]
  exact (back_bij r c).sum_comp (fun d => D d c y)

end

/-! ## A step's products at an index -/

theorem row_lt (b : Fin 16) (i : Fin 256) : 256 * b.val + i.val < 4096 := by omega

/-- Row `i` of block `b`. -/
abbrev rowAt (b : Fin 16) (i : Fin 256) : Fin 4096 := ⟨256 * b.val + i.val, row_lt b i⟩

theorem tiles_x : Layout.Tiles ⟨2, ![4096, 256]⟩ ⟨2, ![4096, 4096]⟩ 1 16 := by decide
theorem tiles_w : Layout.Tiles ⟨2, ![256, 8192]⟩ ⟨2, ![4096, 8192]⟩ 0 16 := by decide

theorem prod_apply (x : Vec Ideal S256x256 .bf16) (w : Vec Ideal S256x4096 .bf16) (i : Fin 256) (j : Fin 4096) :
    prod x w (ix2 i j) = ∑ k : Fin 256, (x (ix2 i k) : EReal) * w (ix2 k j) := by
  unfold prod
  rw [shapeCast_self, shapeCast_self]
  refine (Ideal.matmul_plain_apply (M := 256) (K := 256) (N := 4096) none x w (constant S256x4096 .f32 0x00000000#32) i j).trans ?_
  rw [constant_apply]
  refine (congrArg (· + _) (Ideal.ofBits_zero_f32)).trans (zero_add _)

section
variable (xs : Dev nD → FVec Ideal S4096x256 .bf16) (ws : Dev nD → FVec Ideal S256x8192 .bf16)

/-- Row `i` of block `b` of `d`'s part of `x`, by column `j` of `d`'s part of `w`. -/
def dotAt (d : Dev nD) (b : Fin 16) (i : Fin 256) (j : Fin 8192) : EReal :=
  ∑ k : Fin 256, xs d (ix2 (rowAt b i) k) * ws d (ix2 k j)

theorem col_lt (r : Fin 4) (j : Fin 2048) : outCol r + j.val < 8192 := by
  have h : outCol r + 2048 ≤ 8192 := by revert r; decide
  omega

end

theorem read_rows (x : Vec Ideal S4096x256 .bf16) (off : Fin 2 → ℕ) (inb : ∀ a, off a + S256x256.size a ≤ S4096x256.size a)
    (b : Fin 16) (h0 : off 0 = 256 * b.val) (h1 : off 1 = 0) (i : Fin 256) (k : Fin 256) :
    xM.view.readAt (Elt Ideal) (Rect.unit (s := S4096x256) off S256x256.size inb).toLoadRect x (ix2 i k)
      = x (ix2 (rowAt b i) k) := by
  rw [View.readAt_apply]
  refine congrArg x (funext fun a => Fin.ext ?_)
  match a with
  | ⟨0, _⟩ => show off 0 + 1 * i.val = 256 * b.val + i.val; omega
  | ⟨1, _⟩ => show off 1 + 1 * k.val = k.val; omega

theorem read_cols (w : Vec Ideal S256x8192 .bf16) (o : ℕ) (inb : ∀ a, (![0, o] : Fin 2 → ℕ) a + S256x4096.size a ≤ S256x8192.size a)
    (k : Fin 256) (j : Fin 4096) (j' : Fin 8192) (hj : j'.val = o + j.val) :
    wM.view.readAt (Elt Ideal) (Rect.unit (s := S256x8192) ![0, o] S256x4096.size inb).toLoadRect w (ix2 k j) = w (ix2 k j') := by
  rw [View.readAt_apply]
  refine congrArg w (funext fun a => Fin.ext ?_)
  match a with
  | ⟨0, _⟩ => show 0 + 1 * k.val = k.val; omega
  | ⟨1, _⟩ => show o + 1 * j.val = j'.val; omega

theorem cut_apply (p : FVec Ideal S256x4096 .f32) (o : ℕ) (h) (i : Fin 256) (j : Fin 2048) (j' : Fin 4096) (hj : j'.val = o + j.val) :
    extractStridedSlice S256x2048 ![0, o] p h (ix2 i j) = p (ix2 i j') := by
  refine congrArg p (funext fun a => Fin.ext ?_)
  match a with
  | ⟨0, _⟩ => show 0 + i.val = i.val; omega
  | ⟨1, _⟩ => show o + j.val = j'.val; omega

section
variable (xs : Dev nD → FVec Ideal S4096x256 .bf16) (ws : Dev nD → FVec Ideal S256x8192 .bf16)

theorem quarter_apply (r : Fin 4) (d : Dev nD) (s : ℕ) (hs : s < 16) (i : Fin 256) (j : Fin 2048) :
    quarter r (partsOf (F := Ideal) (xs d) (ws d) d s) (ix2 i j) = dotAt xs ws d (own r s d) i ⟨outCol r + j.val, col_lt r j⟩ := by
  have hr : r = 0 ∨ r = 1 ∨ r = 2 ∨ r = 3 := by revert r; decide
  unfold partsOf dotAt
  rcases hr with rfl | rfl | rfl | rfl
  · refine (cut_apply _ 0 slices_S256x4096_o0_0_S256x2048 i j ⟨0 + j.val, by omega⟩ rfl).trans ((prod_apply _ _ i _).trans (Finset.sum_congr rfl fun k _ => ?_))
    exact congrArg₂ (· * ·) (read_rows _ _ _ _ (off1_eq d ⟨s, hs⟩) rfl i k) (read_cols _ 0 _ k _ _ (by simp [outCol]))
  · refine (cut_apply _ 0 slices_S256x4096_o0_0_S256x2048 i j ⟨0 + j.val, by omega⟩ rfl).trans ((prod_apply _ _ i _).trans (Finset.sum_congr rfl fun k _ => ?_))
    exact congrArg₂ (· * ·) (read_rows _ _ _ _ (off2_eq d ⟨s, hs⟩) rfl i k) (read_cols _ 4096 _ k _ _ (by simp [outCol]))
  · refine (cut_apply _ 2048 slices_S256x4096_o0_2048_S256x2048 i j ⟨2048 + j.val, by omega⟩ rfl).trans ((prod_apply _ _ i _).trans (Finset.sum_congr rfl fun k _ => ?_))
    exact congrArg₂ (· * ·) (read_rows _ _ _ _ (off1_eq d ⟨s, hs⟩) rfl i k) (read_cols _ 0 _ k _ _ (by simp [outCol]))
  · refine (cut_apply _ 2048 slices_S256x4096_o0_2048_S256x2048 i j ⟨2048 + j.val, by omega⟩ rfl).trans ((prod_apply _ _ i _).trans (Finset.sum_congr rfl fun k _ => ?_))
    exact congrArg₂ (· * ·) (read_rows _ _ _ _ (off2_eq d ⟨s, hs⟩) rfl i k)
      (read_cols _ 4096 _ k _ _ (show 6144 + j.val = 4096 + (2048 + j.val) by omega))

theorem fin_apply (c : Dev nD) (r : Fin 4) (i : Fin 256) (j : Fin 2048) :
    fin (PP (F := Ideal) xs ws) c r (ix2 i j) = ∑ d : Dev nD, dotAt xs ws d c i ⟨outCol r + j.val, col_lt r j⟩ :=
  fin_sum (PP (F := Ideal) xs ws) (fun d b y => dotAt xs ws d b (y 0) ⟨outCol r + (y 1).val, col_lt r (y 1)⟩) r
    (fun d s hs y => (congrArg _ (eq_ix2 y)).trans (quarter_apply xs ws r d s hs (y 0) (y 1))) c (ix2 i j)

/-! ## The whole contraction -/

variable (X : FVec Ideal ⟨2, ![4096, 4096]⟩ .bf16) (W : FVec Ideal ⟨2, ![4096, 8192]⟩ .bf16)
  (hX : ∀ d, xs d = Layout.block ⟨2, ![4096, 256]⟩ ⟨2, ![4096, 4096]⟩ 1 16 d X tiles_x)
  (hW : ∀ d, ws d = Layout.block ⟨2, ![256, 8192]⟩ ⟨2, ![4096, 8192]⟩ 0 16 d W tiles_w)

theorem block_x (d : Fin 16) (a : Fin 4096) (k : Fin 256) :
    Layout.block ⟨2, ![4096, 256]⟩ ⟨2, ![4096, 4096]⟩ 1 16 d X tiles_x (ix2 a k)
      = X (ix2 a (finProdFinEquiv (d, k) : Fin (16 * 256))) := by
  refine congrArg X (funext fun b => Fin.ext ?_)
  match b with
  | ⟨0, _⟩ => rfl
  | ⟨1, _⟩ => show d.val * 256 + k.val = k.val + 256 * d.val; omega

theorem block_w (d : Fin 16) (k : Fin 256) (j : Fin 8192) :
    Layout.block ⟨2, ![256, 8192]⟩ ⟨2, ![4096, 8192]⟩ 0 16 d W tiles_w (ix2 k j)
      = W (ix2 (finProdFinEquiv (d, k) : Fin (16 * 256)) j) := by
  refine congrArg W (funext fun b => Fin.ext ?_)
  match b with
  | ⟨0, _⟩ => show d.val * 256 + k.val = k.val + 256 * d.val; omega
  | ⟨1, _⟩ => rfl

include hX hW in
theorem sum_dotAt (c : Fin 16) (i : Fin 256) (j : Fin 8192) :
    ∑ d : Dev nD, dotAt xs ws d c i j
      = ∑ K : Fin 4096, X (ix2 (rowAt c i) K) * W (ix2 K j) := by
  refine Eq.trans ?_ ((Fintype.sum_prod_type' (fun (d : Fin 16) (k : Fin 256) =>
      X (ix2 (rowAt c i) (finProdFinEquiv (d, k) : Fin (16 * 256)))
        * W (ix2 (finProdFinEquiv (d, k) : Fin (16 * 256)) j))).symm.trans
    (Equiv.sum_comp (finProdFinEquiv (m := 16) (n := 256)) (fun K : Fin (16 * 256) =>
      X (ix2 (rowAt c i) K) * W (ix2 K j))))
  refine Finset.sum_congr rfl fun d _ => ?_
  unfold dotAt
  rw [hX d, hW d]
  exact Finset.sum_congr rfl fun k _ => congrArg₂ (· * ·) (block_x X d _ k) (block_w W d k j)

end

end Cert.Proof

end
-- ==== Proof.Result.lean ====
/-
  What the arrays hold at the end: the arguments as they were, the result the device's block of rows of the
  reference's product.
-/
module

public import proofs.«01_k».proof.Proof.Value

@[expose] public section

noncomputable section

namespace Cert.Proof

open Cert.KernelIdeal Cert.KernelIdeal.Gen

open Idealize.ShloMosaic Idealize.ShloMosaic.ValueIdx
open Idealize.ShloMosaic.TcCoe
open Idealize.SL.Sem
open scoped BigOperators

section
variable {F : FTy → Type} [FloatOps F] (m : (ℓ : Loc nD τ sig) → Buf (Elt F) ℓ)

theorem finalA_x (c : Dev nD) : finalA m c (0 : Fin 3) = m ((c : Thread nD τ).loc main_arg0) :=
  (dats m 0 c).arrAt_in (0 : Fin 3) rfl _
theorem finalA_w (c : Dev nD) : finalA m c (1 : Fin 3) = m ((c : Thread nD τ).loc main_arg1) :=
  (dats m 0 c).arrAt_in (1 : Fin 3) rfl _

/-- Each window's one block is its whole array. -/
theorem xstg_eq (c : Dev nD) : xstg m c = m ((c : Thread nD τ).loc main_arg0) := by
  funext y
  refine congrArg (m ((c : Thread nD τ).loc main_arg0)) (funext fun a => Fin.ext ?_)
  match a with
  | ⟨0, _⟩ => show 0 * 4096 + 1 * (y 0).val = (y 0).val; omega
  | ⟨1, _⟩ => show 0 * 256 + 1 * (y 1).val = (y 1).val; omega

theorem wstg_eq (c : Dev nD) : wstg m c = m ((c : Thread nD τ).loc main_arg1) := by
  funext y
  refine congrArg (m ((c : Thread nD τ).loc main_arg1)) (funext fun a => Fin.ext ?_)
  match a with
  | ⟨0, _⟩ => show 0 * 256 + 1 * (y 0).val = (y 0).val; omega
  | ⟨1, _⟩ => show 0 * 8192 + 1 * (y 1).val = (y 1).val; omega

theorem flushed_out (c : Dev nD) (t : Fin cfg0.N) :
    (dats m 0 c).flushed (2 : Fin 3) t = ((cfg0.win (2 : Fin 3)).blk t).view.read (Elt F) (outAt m c) := by
  rw [show t = t0_0 from fin_N0 t]
  funext y
  refine congrArg (outAt m c) (funext fun a => Fin.ext ?_)
  match a with
  | ⟨0, _⟩ => show (y 0).val = 0 * 256 + 1 * (y 0).val; omega
  | ⟨1, _⟩ => show (y 1).val = 0 * 8192 + 1 * (y 1).val; omega

theorem cover_out (i : S256x8192.Idx) :
    ∃ t : Fin cfg0.N, (cfg0.win (2 : Fin 3)).flush t = true ∧ i ∈ ((cfg0.win (2 : Fin 3)).blk t).view.set := by
  refine ⟨t0_0, flush0_2 _, ?_⟩
  have e : ((cfg0.win (2 : Fin 3)).blk t0_0).view.emb i = i := by
    funext a; refine Fin.ext ?_
    match a with
    | ⟨0, _⟩ => show 0 * 256 + 1 * (i 0).val = (i 0).val; omega
    | ⟨1, _⟩ => show 0 * 8192 + 1 * (i 1).val = (i 1).val; omega
  rw [← e]
  exact Finset.mem_map_of_mem _ (Finset.mem_univ i)

theorem finalA_out (c : Dev nD) : finalA m c (2 : Fin 3) = outAt m c :=
  (dats m 0 c).arrAt_eq_of_cover (2 : Fin 3) (outAt m c) (fun t _ => flushed_out m c t) cover_out

/-- The result in ring `r`'s columns. -/
theorem outAt_emb (c : Dev nD) (r : Fin 4) (x : S256x2048.Idx) : outAt m c ((outRect r).emb x) = fin (PM m) c r x :=
  congrFun (over_read oM.view (fun _ => FloatOps.ofBits .f32 0) (fin (PM m) c) r) x

end

section
variable (m : (ℓ : Loc nD τ sig) → Buf (Elt Ideal) ℓ)
  (X : FVec Ideal ⟨2, ![4096, 4096]⟩ .bf16) (W : FVec Ideal ⟨2, ![4096, 8192]⟩ .bf16)
  (hX : ∀ d : Dev nD, m ((d : Thread nD τ).loc main_arg0) = Layout.block ⟨2, ![4096, 256]⟩ ⟨2, ![4096, 4096]⟩ 1 16 d X tiles_x)
  (hW : ∀ d : Dev nD, m ((d : Thread nD τ).loc main_arg1) = Layout.block ⟨2, ![256, 8192]⟩ ⟨2, ![4096, 8192]⟩ 0 16 d W tiles_w)

include hX hW in
/-- Each device's result is its block of rows of the whole product. -/
theorem outAt_block (Y : FVec Ideal ⟨2, ![4096, 8192]⟩ .f32)
    (hY : ∀ (a : Fin 4096) (b : Fin 8192), Y (ix2 a b) = ∑ K : Fin 4096, (X (ix2 a K) : EReal) * W (ix2 K b)) (c : Dev nD) :
    outAt m c = Layout.block ⟨2, ![256, 8192]⟩ ⟨2, ![4096, 8192]⟩ 0 16 c Y tiles_w := by
  funext y
  obtain ⟨r, x, rfl⟩ := out_cover y
  obtain ⟨i, j, rfl⟩ : ∃ (i : Fin 256) (j : Fin 2048), x = ix2 i j := ⟨x 0, x 1, eq_ix2 x⟩
  rw [outAt_emb]
  refine (fin_apply (xstg m) (wstg m) c r i j).trans ?_
  rw [sum_dotAt (xstg m) (wstg m) X W (fun d => (xstg_eq m d).trans (hX d)) (fun d => (wstg_eq m d).trans (hW d)) c i, ← hY]
  refine congrArg Y (funext fun a => Fin.ext ?_)
  match a with
  | ⟨0, _⟩ => show 256 * c.val + i.val = c.val * 256 + (0 + 1 * i.val); omega
  | ⟨1, _⟩ => show outCol r + j.val = outCol r + 1 * j.val; omega

end

end Cert.Proof

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent
public import proofs.«01_k».proof.Proof.Result

@[expose] public section

noncomputable section

namespace Cert.Proof

open Idealize.ShloMosaic Idealize.ShloMosaic.ValueIdx Idealize.SL.Sem
open scoped BigOperators

section
variable {F : FTy → Type} [FloatOps F]

open Cert.KernelIdeal in
/-- Every execution of the kernel ends, the arguments unchanged and the semaphores at zero, whatever the floats are. -/
theorem frame_any (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono
    (fun _ h => ⟨fun c => ⟨(h.1 c (0 : Fin 3)).trans (finalA_x m c), (h.1 c (1 : Fin 3)).trans (finalA_w m c)⟩, h.2⟩)
    (run_main m ρ)

end

theorem frame_ideal : Cert.quiescent_KernelIdeal := fun m ρ _ => frame_any m ρ

section
variable {F : FTy → Type} [FloatOps F]

set_option maxRecDepth 100000 in
/-- The two programs have the same text, and so the same table of bodies. -/
theorem bodies_eq : Cert.KernelIdeal.defs₀ (F := F) = Cert.Kernel.defs₀ (F := F) := by
  unfold Cert.KernelIdeal.defs₀ Cert.Kernel.defs₀
  refine congrArg Defs.onTc ?_
  funext l x
  match l, x with
  | 0, (t, s) => rfl
  | ⟨_ + 1, h⟩, _ => exact absurd h (Nat.not_lt.2 (Nat.le_add_left _ _))

set_option maxRecDepth 100000 in
theorem defs_eq : Cert.KernelIdeal.defs (F := F) = Cert.Kernel.defs (F := F) :=
  congrArg (Pipeline.defs Cert.Kernel.pcfgs) bodies_eq

end

/-- So one run serves both. -/
theorem frame_kernel : Cert.quiescent_Kernel := fun m ρ _ =>
  (congrArg (fun D => θ_run D (onTc (τ := Cert.Kernel.τ) (Cert.Kernel.main (F := Bits))) ⟨m, fun _ => 0, ρ⟩ _) defs_eq).mp
    (frame_any (F := Bits) m ρ)

/-- The same of the reference, which has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The reference's array at an index: the whole contraction. -/
theorem reference_apply (X : FVec Ideal ⟨2, ![4096, 4096]⟩ .bf16) (W : FVec Ideal ⟨2, ![4096, 8192]⟩ .bf16)
    (h : FTy.bits .bf16 < FTy.bits .f32) (a : Fin 4096) (b : Fin 8192) :
    (extf .f32 (truncf .bf16 (Host.dotGeneral Cert.ReferenceIdeal.dot_S4096x4096_S4096x8192_S4096x8192_1_0_0_1_n_n none X W) h) h
      : FVec Ideal ⟨2, ![4096, 8192]⟩ .f32) (ix2 a b) = ∑ K : Fin 4096, (X (ix2 a K) : EReal) * W (ix2 K b) :=
  StackMember.dotGeneral_plain_apply (m := 4096) (k := 4096) (n := 8192) none X W a b

/-- Over the extended reals each device's result is its block of rows of the reference's. -/
theorem algebraic : Cert.algebraic_KernelIdeal_ReferenceIdeal := fun m ρ m' ρ' _ hin =>
  ⟨_, (θ_run Cert.KernelIdeal.defs _ _).mono
      (fun _ h c => ⟨(h.1 c (2 : Fin 3)).trans ((finalA_out (F := Ideal) m c).trans
          (outAt_block m _ _ (fun d => (hin d).1) (fun d => (hin d).2) _ (reference_apply _ _ _) c)),
        (h.1 c (0 : Fin 3)).trans (finalA_x (F := Ideal) m c), (h.1 c (1 : Fin 3)).trans (finalA_w (F := Ideal) m c)⟩)
      (run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_ideal, frame_reference, trivial, algebraic⟩

end Cert.Proof

end
